-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_ReferenceIdeal.lean ====
abbrev S2x128x512 : Shape := ⟨3, ![2, 128, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x4x64 : S_.BroadcastsInDim S2x1024x4x64 (![] : Fin 0 → Fin S2x1024x4x64.rank)
  reducesTo_S2x1024x4x64_S_d0_1_2_3 : S2x1024x4x64.ReducesTo [0, 1, 2, 3] S_

variable [Facts]

def fn {F : FTy → Type} [FloatOps F] (main_arg0 : FVec F S2x128x512 .f32) (main_arg1 : FVec F S512x256 .f32) (main_arg2 : FVec F S2x1024x4x64 .f32) (main_arg3 : FVec F S2x1024x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x1024x4x64 .f32 := Host.absf main_arg2
  let main_cst_2 : FVec F S_ .f32 := constant S_ .f32 0x7F800000#32
  let main_v10 : FVec F S2x1024x4x64 .f32 := broadcastInDim S2x1024x4x64 ![] bcast_S_S2x1024x4x64 main_cst_2
  let main_v11 : IVec S2x1024x4x64 1 := cmpf .olt main_v9 main_v10
  let main_c_3 : IVec S_ 1 := constantI S_ 1 1#1
  let main_v12 : IVec S_ 1 := (fun x v => Host.reduce IntOp.andi x v reducesTo_S2x1024x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x4x64x128 : Shape := ⟨4, ![2, 4, 64, 128]⟩
abbrev S2x2x128x260 : Shape := ⟨4, ![2, 2, 128, 260]⟩
abbrev S8 : Shape := ⟨1, ![8]⟩
abbrev S2x2 : Shape := ⟨2, ![2, 2]⟩
abbrev S5 : Shape := ⟨1, ![5]⟩
abbrev S2 : Shape := ⟨1, ![2]⟩
abbrev S1 : Shape := ⟨1, ![1]⟩
abbrev S_ : Shape := ⟨0, ![]⟩
abbrev S1x128x512 : Shape := ⟨3, ![1, 128, 512]⟩
abbrev S128x512 : Shape := ⟨2, ![128, 512]⟩
abbrev S128x256 : Shape := ⟨2, ![128, 256]⟩
abbrev S1x4x64x128 : Shape := ⟨4, ![1, 4, 64, 128]⟩
abbrev S4x64x128 : Shape := ⟨3, ![4, 64, 128]⟩
abbrev S4x128x64 : Shape := ⟨3, ![4, 128, 64]⟩
abbrev S128x1 : Shape := ⟨2, ![128, 1]⟩
abbrev S128x64 : Shape := ⟨2, ![128, 64]⟩
abbrev S1x1x64x128 : Shape := ⟨4, ![1, 1, 64, 128]⟩
abbrev S64x128 : Shape := ⟨2, ![64, 128]⟩
abbrev S128x128 : Shape := ⟨2, ![128, 128]⟩
abbrev S1x128x64 : Shape := ⟨3, ![1, 128, 64]⟩
abbrev S128x65 : Shape := ⟨2, ![128, 65]⟩
abbrev S1x1x128x64 : Shape := ⟨4, ![1, 1, 128, 64]⟩
abbrev S1x1x128x1 : Shape := ⟨4, ![1, 1, 128, 1]⟩
abbrev S1x1 : Shape := ⟨2, ![1, 1]⟩
abbrev S1x1x128x260 : Shape := ⟨4, ![1, 1, 128, 260]⟩
abbrev S128x260 : Shape := ⟨2, ![128, 260]⟩

abbrev nBuf : Space → Nat
  | .hbm => 8
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x4x64x128, .f32⟩
  | .hbm, ⟨6, _⟩ => ⟨S2x4x64x128, .f32⟩
  | .hbm, ⟨7, _⟩ => ⟨S2x128x512, .bf16⟩
  | .local _ .vmem, ⟨0, _⟩ => ⟨S2x2x128x260, .bf16⟩
  | .local _ .vmem, ⟨1, _⟩ => ⟨S2x128x512, .f32⟩
  | .local _ .vmem, ⟨2, _⟩ => ⟨S512x256, .f32⟩
  | .local _ .vmem, ⟨3, _⟩ => ⟨S2x4x64x128, .f32⟩
  | .local _ .vmem, ⟨4, _⟩ => ⟨S2x4x64x128, .f32⟩
  | .local _ .vmem, ⟨5, _⟩ => ⟨S256x512, .f32⟩
  | .local _ .vmem, ⟨6, _⟩ => ⟨S2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_scratch0 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch9 : Ref sig .tc := ⟨.vmem, 6, rfl⟩
abbrev barrier0 : Sem sig := 0

abbrev nD : Nat := 8
abbrev τ : Topo := Topo.v7x

variable {F : FTy → Type} [FloatOps F]

abbrev grid0 : Pipeline.Grid := .none

def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_0 : BitVec 32 := 0#32
  let v8 : BitVec 1 := Scalar.cmpi .eq v2 c0_i32_0
  let v9 : BitVec 32 := Scalar.extui v8
  let c0_i32_1 : BitVec 32 := 0#32
  let v10 : BitVec 1 := Scalar.cmpi .ne v9 c0_i32_1
  v10

def k0_dev1 : Nat :=
  let c0_i32_41 : BitVec 32 := 0#32
  let c1_i32_39 : BitVec 32 := 1#32
  let c1_i32_40 : BitVec 32 := 1#32
  let v63 : BitVec 32 := Scalar.muli c1_i32_39 c1_i32_40
  let v64 : BitVec 32 := Scalar.addi c0_i32_41 v63
  v64.toNat
def k0_dev2 : Nat :=
  let c0_i32_115 : BitVec 32 := 0#32
  let c1_i32_113 : BitVec 32 := 1#32
  let c1_i32_114 : BitVec 32 := 1#32
  let v178 : BitVec 32 := Scalar.muli c1_i32_113 c1_i32_114
  let v179 : BitVec 32 := Scalar.addi c0_i32_115 v178
  v179.toNat
def k0_dev3 : Nat :=
  let c0_i32_129 : BitVec 32 := 0#32
  let c3_i32_127 : BitVec 32 := 3#32
  let c1_i32_128 : BitVec 32 := 1#32
  let v188 : BitVec 32 := Scalar.muli c3_i32_127 c1_i32_128
  let v189 : BitVec 32 := Scalar.addi c0_i32_129 v188
  v189.toNat
def k0_dev4 : Nat :=
  let c0_i32_143 : BitVec 32 := 0#32
  let c4_i32_141 : BitVec 32 := 4#32
  let c1_i32_142 : BitVec 32 := 1#32
  let v198 : BitVec 32 := Scalar.muli c4_i32_141 c1_i32_142
  let v199 : BitVec 32 := Scalar.addi c0_i32_143 v198
  v199.toNat
def k0_dev5 : Nat :=
  let c0_i32_228 : BitVec 32 := 0#32
  let c1_i32_226 : BitVec 32 := 1#32
  let c1_i32_227 : BitVec 32 := 1#32
  let v312 : BitVec 32 := Scalar.muli c1_i32_226 c1_i32_227
  let v313 : BitVec 32 := Scalar.addi c0_i32_228 v312
  v313.toNat
def k0_dev6 : Nat :=
  let c0_i32_242 : BitVec 32 := 0#32
  let c3_i32_240 : BitVec 32 := 3#32
  let c1_i32_241 : BitVec 32 := 1#32
  let v322 : BitVec 32 := Scalar.muli c3_i32_240 c1_i32_241
  let v323 : BitVec 32 := Scalar.addi c0_i32_242 v322
  v323.toNat
def k0_dev7 : Nat :=
  let c0_i32_256 : BitVec 32 := 0#32
  let c4_i32_254 : BitVec 32 := 4#32
  let c1_i32_255 : BitVec 32 := 1#32
  let v332 : BitVec 32 := Scalar.muli c4_i32_254 c1_i32_255
  let v333 : BitVec 32 := Scalar.addi c0_i32_256 v332
  v333.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v11 : BitVec 1 := Scalar.cmpi .eq v2 c1_i32_2
  let v12 : BitVec 32 := Scalar.extui v11
  let c0_i32_3 : BitVec 32 := 0#32
  let v13 : BitVec 1 := Scalar.cmpi .ne v12 c0_i32_3
  v13

def k0_dev8 : Nat :=
  let c0_i32_41 : BitVec 32 := 0#32
  let c0_i32_39 : BitVec 32 := 0#32
  let c1_i32_40 : BitVec 32 := 1#32
  let v63 : BitVec 32 := Scalar.muli c0_i32_39 c1_i32_40
  let v64 : BitVec 32 := Scalar.addi c0_i32_41 v63
  v64.toNat
def k0_dev9 : Nat :=
  let c0_i32_119 : BitVec 32 := 0#32
  let c0_i32_117 : BitVec 32 := 0#32
  let c1_i32_118 : BitVec 32 := 1#32
  let v198 : BitVec 32 := Scalar.muli c0_i32_117 c1_i32_118
  let v199 : BitVec 32 := Scalar.addi c0_i32_119 v198
  v199.toNat
def k0_dev10 : Nat :=
  let c0_i32_133 : BitVec 32 := 0#32
  let c2_i32_131 : BitVec 32 := 2#32
  let c1_i32_132 : BitVec 32 := 1#32
  let v208 : BitVec 32 := Scalar.muli c2_i32_131 c1_i32_132
  let v209 : BitVec 32 := Scalar.addi c0_i32_133 v208
  v209.toNat
def k0_dev11 : Nat :=
  let c0_i32_147 : BitVec 32 := 0#32
  let c5_i32_145 : BitVec 32 := 5#32
  let c1_i32_146 : BitVec 32 := 1#32
  let v218 : BitVec 32 := Scalar.muli c5_i32_145 c1_i32_146
  let v219 : BitVec 32 := Scalar.addi c0_i32_147 v218
  v219.toNat
def k0_dev12 : Nat :=
  let c0_i32_236 : BitVec 32 := 0#32
  let c0_i32_234 : BitVec 32 := 0#32
  let c1_i32_235 : BitVec 32 := 1#32
  let v352 : BitVec 32 := Scalar.muli c0_i32_234 c1_i32_235
  let v353 : BitVec 32 := Scalar.addi c0_i32_236 v352
  v353.toNat
def k0_dev13 : Nat :=
  let c0_i32_250 : BitVec 32 := 0#32
  let c2_i32_248 : BitVec 32 := 2#32
  let c1_i32_249 : BitVec 32 := 1#32
  let v362 : BitVec 32 := Scalar.muli c2_i32_248 c1_i32_249
  let v363 : BitVec 32 := Scalar.addi c0_i32_250 v362
  v363.toNat
def k0_dev14 : Nat :=
  let c0_i32_264 : BitVec 32 := 0#32
  let c5_i32_262 : BitVec 32 := 5#32
  let c1_i32_263 : BitVec 32 := 1#32
  let v372 : BitVec 32 := Scalar.muli c5_i32_262 c1_i32_263
  let v373 : BitVec 32 := Scalar.addi c0_i32_264 v372
  v373.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let v14 : BitVec 1 := Scalar.cmpi .eq v2 c2_i32_4
  let v15 : BitVec 32 := Scalar.extui v14
  let c0_i32_5 : BitVec 32 := 0#32
  let v16 : BitVec 1 := Scalar.cmpi .ne v15 c0_i32_5
  v16

def k0_dev15 : Nat :=
  let c0_i32_41 : BitVec 32 := 0#32
  let c3_i32_39 : BitVec 32 := 3#32
  let c1_i32_40 : BitVec 32 := 1#32
  let v63 : BitVec 32 := Scalar.muli c3_i32_39 c1_i32_40
  let v64 : BitVec 32 := Scalar.addi c0_i32_41 v63
  v64.toNat
def k0_dev16 : Nat :=
  let c0_i32_45 : BitVec 32 := 0#32
  let c1_i32_43 : BitVec 32 := 1#32
  let c1_i32_44 : BitVec 32 := 1#32
  let v66 : BitVec 32 := Scalar.muli c1_i32_43 c1_i32_44
  let v67 : BitVec 32 := Scalar.addi c0_i32_45 v66
  v67.toNat
def k0_dev17 : Nat :=
  let c0_i32_70 : BitVec 32 := 0#32
  let c3_i32_68 : BitVec 32 := 3#32
  let c1_i32_69 : BitVec 32 := 1#32
  let v77 : BitVec 32 := Scalar.muli c3_i32_68 c1_i32_69
  let v78 : BitVec 32 := Scalar.addi c0_i32_70 v77
  v78.toNat
def k0_dev18 : Nat :=
  let c0_i32_84 : BitVec 32 := 0#32
  let c6_i32_82 : BitVec 32 := 6#32
  let c1_i32_83 : BitVec 32 := 1#32
  let v87 : BitVec 32 := Scalar.muli c6_i32_82 c1_i32_83
  let v88 : BitVec 32 := Scalar.addi c0_i32_84 v87
  v88.toNat
def k0_dev19 : Nat :=
  let c0_i32_112 : BitVec 32 := 0#32
  let c3_i32_110 : BitVec 32 := 3#32
  let c1_i32_111 : BitVec 32 := 1#32
  let v105 : BitVec 32 := Scalar.muli c3_i32_110 c1_i32_111
  let v106 : BitVec 32 := Scalar.addi c0_i32_112 v105
  v106.toNat
def k0_dev20 : Nat :=
  let c0_i32_126 : BitVec 32 := 0#32
  let c6_i32_124 : BitVec 32 := 6#32
  let c1_i32_125 : BitVec 32 := 1#32
  let v115 : BitVec 32 := Scalar.muli c6_i32_124 c1_i32_125
  let v116 : BitVec 32 := Scalar.addi c0_i32_126 v115
  v116.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v17 : BitVec 1 := Scalar.cmpi .eq v2 c3_i32
  let v18 : BitVec 32 := Scalar.extui v17
  let c0_i32_6 : BitVec 32 := 0#32
  let v19 : BitVec 1 := Scalar.cmpi .ne v18 c0_i32_6
  v19

def k0_dev21 : Nat :=
  let c0_i32_41 : BitVec 32 := 0#32
  let c0_i32_39 : BitVec 32 := 0#32
  let c1_i32_40 : BitVec 32 := 1#32
  let v63 : BitVec 32 := Scalar.muli c0_i32_39 c1_i32_40
  let v64 : BitVec 32 := Scalar.addi c0_i32_41 v63
  v64.toNat
def k0_dev22 : Nat :=
  let c0_i32_45 : BitVec 32 := 0#32
  let c2_i32_43 : BitVec 32 := 2#32
  let c1_i32_44 : BitVec 32 := 1#32
  let v66 : BitVec 32 := Scalar.muli c2_i32_43 c1_i32_44
  let v67 : BitVec 32 := Scalar.addi c0_i32_45 v66
  v67.toNat
def k0_dev23 : Nat :=
  let c0_i32_70 : BitVec 32 := 0#32
  let c2_i32_68 : BitVec 32 := 2#32
  let c1_i32_69 : BitVec 32 := 1#32
  let v77 : BitVec 32 := Scalar.muli c2_i32_68 c1_i32_69
  let v78 : BitVec 32 := Scalar.addi c0_i32_70 v77
  v78.toNat
def k0_dev24 : Nat :=
  let c0_i32_84 : BitVec 32 := 0#32
  let c7_i32_82 : BitVec 32 := 7#32
  let c1_i32_83 : BitVec 32 := 1#32
  let v87 : BitVec 32 := Scalar.muli c7_i32_82 c1_i32_83
  let v88 : BitVec 32 := Scalar.addi c0_i32_84 v87
  v88.toNat
def k0_dev25 : Nat :=
  let c0_i32_112 : BitVec 32 := 0#32
  let c2_i32_110 : BitVec 32 := 2#32
  let c1_i32_111 : BitVec 32 := 1#32
  let v105 : BitVec 32 := Scalar.muli c2_i32_110 c1_i32_111
  let v106 : BitVec 32 := Scalar.addi c0_i32_112 v105
  v106.toNat
def k0_dev26 : Nat :=
  let c0_i32_126 : BitVec 32 := 0#32
  let c7_i32_124 : BitVec 32 := 7#32
  let c1_i32_125 : BitVec 32 := 1#32
  let v115 : BitVec 32 := Scalar.muli c7_i32_124 c1_i32_125
  let v116 : BitVec 32 := Scalar.addi c0_i32_126 v115
  v116.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v20 : BitVec 1 := Scalar.cmpi .eq v2 c4_i32_7
  let v21 : BitVec 32 := Scalar.extui v20
  let c0_i32_8 : BitVec 32 := 0#32
  let v22 : BitVec 1 := Scalar.cmpi .ne v21 c0_i32_8
  v22

def k0_dev27 : Nat :=
  let c0_i32_41 : BitVec 32 := 0#32
  let c0_i32_39 : BitVec 32 := 0#32
  let c1_i32_40 : BitVec 32 := 1#32
  let v63 : BitVec 32 := Scalar.muli c0_i32_39 c1_i32_40
  let v64 : BitVec 32 := Scalar.addi c0_i32_41 v63
  v64.toNat
def k0_dev28 : Nat :=
  let c0_i32_45 : BitVec 32 := 0#32
  let c5_i32_43 : BitVec 32 := 5#32
  let c1_i32_44 : BitVec 32 := 1#32
  let v66 : BitVec 32 := Scalar.muli c5_i32_43 c1_i32_44
  let v67 : BitVec 32 := Scalar.addi c0_i32_45 v66
  v67.toNat
def k0_dev29 : Nat :=
  let c0_i32_70 : BitVec 32 := 0#32
  let c6_i32_68 : BitVec 32 := 6#32
  let c1_i32_69 : BitVec 32 := 1#32
  let v77 : BitVec 32 := Scalar.muli c6_i32_68 c1_i32_69
  let v78 : BitVec 32 := Scalar.addi c0_i32_70 v77
  v78.toNat
def k0_dev30 : Nat :=
  let c0_i32_84 : BitVec 32 := 0#32
  let c5_i32_82 : BitVec 32 := 5#32
  let c1_i32_83 : BitVec 32 := 1#32
  let v87 : BitVec 32 := Scalar.muli c5_i32_82 c1_i32_83
  let v88 : BitVec 32 := Scalar.addi c0_i32_84 v87
  v88.toNat
def k0_dev31 : Nat :=
  let c0_i32_112 : BitVec 32 := 0#32
  let c6_i32_110 : BitVec 32 := 6#32
  let c1_i32_111 : BitVec 32 := 1#32
  let v105 : BitVec 32 := Scalar.muli c6_i32_110 c1_i32_111
  let v106 : BitVec 32 := Scalar.addi c0_i32_112 v105
  v106.toNat
def k0_dev32 : Nat :=
  let c0_i32_126 : BitVec 32 := 0#32
  let c5_i32_124 : BitVec 32 := 5#32
  let c1_i32_125 : BitVec 32 := 1#32
  let v115 : BitVec 32 := Scalar.muli c5_i32_124 c1_i32_125
  let v116 : BitVec 32 := Scalar.addi c0_i32_126 v115
  v116.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v23 : BitVec 1 := Scalar.cmpi .eq v2 c5_i32
  let v24 : BitVec 32 := Scalar.extui v23
  let c0_i32_9 : BitVec 32 := 0#32
  let v25 : BitVec 1 := Scalar.cmpi .ne v24 c0_i32_9
  v25

def k0_dev33 : Nat :=
  let c0_i32_41 : BitVec 32 := 0#32
  let c4_i32_39 : BitVec 32 := 4#32
  let c1_i32_40 : BitVec 32 := 1#32
  let v63 : BitVec 32 := Scalar.muli c4_i32_39 c1_i32_40
  let v64 : BitVec 32 := Scalar.addi c0_i32_41 v63
  v64.toNat
def k0_dev34 : Nat :=
  let c0_i32_45 : BitVec 32 := 0#32
  let c1_i32_43 : BitVec 32 := 1#32
  let c1_i32_44 : BitVec 32 := 1#32
  let v66 : BitVec 32 := Scalar.muli c1_i32_43 c1_i32_44
  let v67 : BitVec 32 := Scalar.addi c0_i32_45 v66
  v67.toNat
def k0_dev35 : Nat :=
  let c0_i32_70 : BitVec 32 := 0#32
  let c4_i32_68 : BitVec 32 := 4#32
  let c1_i32_69 : BitVec 32 := 1#32
  let v77 : BitVec 32 := Scalar.muli c4_i32_68 c1_i32_69
  let v78 : BitVec 32 := Scalar.addi c0_i32_70 v77
  v78.toNat
def k0_dev36 : Nat :=
  let c0_i32_84 : BitVec 32 := 0#32
  let c7_i32_82 : BitVec 32 := 7#32
  let c1_i32_83 : BitVec 32 := 1#32
  let v87 : BitVec 32 := Scalar.muli c7_i32_82 c1_i32_83
  let v88 : BitVec 32 := Scalar.addi c0_i32_84 v87
  v88.toNat
def k0_dev37 : Nat :=
  let c0_i32_112 : BitVec 32 := 0#32
  let c4_i32_110 : BitVec 32 := 4#32
  let c1_i32_111 : BitVec 32 := 1#32
  let v105 : BitVec 32 := Scalar.muli c4_i32_110 c1_i32_111
  let v106 : BitVec 32 := Scalar.addi c0_i32_112 v105
  v106.toNat
def k0_dev38 : Nat :=
  let c0_i32_126 : BitVec 32 := 0#32
  let c7_i32_124 : BitVec 32 := 7#32
  let c1_i32_125 : BitVec 32 := 1#32
  let v115 : BitVec 32 := Scalar.muli c7_i32_124 c1_i32_125
  let v116 : BitVec 32 := Scalar.addi c0_i32_126 v115
  v116.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v26 : BitVec 1 := Scalar.cmpi .eq v2 c6_i32
  let v27 : BitVec 32 := Scalar.extui v26
  let c0_i32_10 : BitVec 32 := 0#32
  let v28 : BitVec 1 := Scalar.cmpi .ne v27 c0_i32_10
  v28

def k0_dev39 : Nat :=
  let c0_i32_41 : BitVec 32 := 0#32
  let c4_i32_39 : BitVec 32 := 4#32
  let c1_i32_40 : BitVec 32 := 1#32
  let v63 : BitVec 32 := Scalar.muli c4_i32_39 c1_i32_40
  let v64 : BitVec 32 := Scalar.addi c0_i32_41 v63
  v64.toNat
def k0_dev40 : Nat :=
  let c0_i32_45 : BitVec 32 := 0#32
  let c2_i32_43 : BitVec 32 := 2#32
  let c1_i32_44 : BitVec 32 := 1#32
  let v66 : BitVec 32 := Scalar.muli c2_i32_43 c1_i32_44
  let v67 : BitVec 32 := Scalar.addi c0_i32_45 v66
  v67.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v29 : BitVec 1 := Scalar.cmpi .eq v2 c7_i32
  let v30 : BitVec 32 := Scalar.extui v29
  let c0_i32_11 : BitVec 32 := 0#32
  let v31 : BitVec 1 := Scalar.cmpi .ne v30 c0_i32_11
  v31

def k0_dev41 : Nat :=
  let c0_i32_41 : BitVec 32 := 0#32
  let c3_i32_39 : BitVec 32 := 3#32
  let c1_i32_40 : BitVec 32 := 1#32
  let v63 : BitVec 32 := Scalar.muli c3_i32_39 c1_i32_40
  let v64 : BitVec 32 := Scalar.addi c0_i32_41 v63
  v64.toNat
def k0_dev42 : Nat :=
  let c0_i32_45 : BitVec 32 := 0#32
  let c5_i32_43 : BitVec 32 := 5#32
  let c1_i32_44 : BitVec 32 := 1#32
  let v66 : BitVec 32 := Scalar.muli c5_i32_43 c1_i32_44
  let v67 : BitVec 32 := Scalar.addi c0_i32_45 v66
  v67.toNat
-- ==== ReferenceIdeal.lean ====
abbrev S2x128x512 : Shape := ⟨3, ![2, 128, 512]⟩
abbrev S512x256 : Shape := ⟨2, ![512, 256]⟩
abbrev S2x1024x4x64 : Shape := ⟨4, ![2, 1024, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S_ : Shape := ⟨0, ![]⟩
abbrev S2x4x128x1024 : Shape := ⟨4, ![2, 4, 128, 1024]⟩
abbrev S1x1x128x1024 : Shape := ⟨4, ![1, 1, 128, 1024]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 58
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x1024x4x64, .f32⟩
  | .hbm, ⟨3, _⟩ => ⟨S2x1024x4x64, .f32⟩
  | .hbm, ⟨4, _⟩ => ⟨S256x512, .f32⟩
  | .hbm, ⟨5, _⟩ => ⟨S2x128x256, .f32⟩
  | .hbm, ⟨6, _⟩ => ⟨S2x128x4x64, .f32⟩
  | .hbm, ⟨7, _⟩ => ⟨S128, .i32⟩
  | .hbm, ⟨8, _⟩ => ⟨S128x1, .i32⟩
  | .hbm, ⟨9, _⟩ => ⟨S1024, .i32⟩
  | .hbm, ⟨10, _⟩ => ⟨S1x1024, .i32⟩
  | .hbm, ⟨11, _⟩ => ⟨S128x1024, .i32⟩
  | .hbm, ⟨12, _⟩ => ⟨S128x1024, .i32⟩
  | .hbm, ⟨13, _⟩ => ⟨S128x1024, .i32⟩
  | .hbm, ⟨14, _⟩ => ⟨S128x1024, .i32⟩
  | .hbm, ⟨15, _⟩ => ⟨S_, .i32⟩
  | .hbm, ⟨16, _⟩ => ⟨S128x1024, .i32⟩
  | .hbm, ⟨17, _⟩ => ⟨S128x1024, .i1⟩
  | .hbm, ⟨18, _⟩ => ⟨S2x4x128x1024, .f32⟩
  | .hbm, ⟨19, _⟩ => ⟨S_, .f32⟩
  | .hbm, ⟨20, _⟩ => ⟨S2x4x128x1024, .f32⟩
  | .hbm, ⟨21, _⟩ => ⟨S2x4x128x1024, .f32⟩
  | .hbm, ⟨22, _⟩ => ⟨S1x1x128x1024, .i1⟩
  | .hbm, ⟨23, _⟩ => ⟨S_, .f32⟩
  | .hbm, ⟨24, _⟩ => ⟨S_, .f32⟩
  | .hbm, ⟨25, _⟩ => ⟨S2x4x128x1024, .i1⟩
  | .hbm, ⟨26, _⟩ => ⟨S2x4x128x1024, .f32⟩
  | .hbm, ⟨27, _⟩ => ⟨S2x4x128x1024, .f32⟩
  | .hbm, ⟨28, _⟩ => ⟨S_, .f32⟩
  | .hbm, ⟨29, _⟩ => ⟨S2x4x128, .f32⟩
  | .hbm, ⟨30, _⟩ => ⟨S2x4x128x1, .f32⟩
  | .hbm, ⟨31, _⟩ => ⟨S2x4x128x1024, .f32⟩
  | .hbm, ⟨32, _⟩ => ⟨S2x4x128x1024, .f32⟩
  | .hbm, ⟨33, _⟩ => ⟨S2x4x128x1024, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S2x4x128, .f32⟩
  | .hbm, ⟨39, _⟩ => ⟨S2x4x128x1, .f32⟩
  | .hbm, ⟨40, _⟩ => ⟨S_, .f32⟩
  | .hbm, ⟨41, _⟩ => ⟨S_, .f32⟩
  | .hbm, ⟨42, _⟩ => ⟨S2x4x128x1, .i1⟩
  | .hbm, ⟨43, _⟩ => ⟨S2x4x128x1, .f32⟩
  | .hbm, ⟨44, _⟩ => ⟨S2x4x128x1, .f32⟩
  | .hbm, ⟨45, _⟩ => ⟨S2x4x128x1024, .f32⟩
  | .hbm, ⟨46, _⟩ => ⟨S2x4x128x1024, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S2x4x128x1024, .i1⟩
  | .hbm, ⟨51, _⟩ => ⟨S2x4x128x1024, .f32⟩
  | .hbm, ⟨52, _⟩ => ⟨S2x4x128x1024, .f32⟩
  | .hbm, ⟨53, _⟩ => ⟨S2x4x64x128, .f32⟩
  | .hbm, ⟨54, _⟩ => ⟨S2x128x4x64, .f32⟩
  | .hbm, ⟨55, _⟩ => ⟨S2x128x256, .f32⟩
  | .hbm, ⟨56, _⟩ => ⟨S2x128x512, .f32⟩
  | .hbm, ⟨57, _⟩ => ⟨S2x128x512, .bf16⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Proof.Kernel.BodyEq.lean ====
module

public import proofs.«01_k».proof.Proof.Kernel.Prog

@[expose] public section

noncomputable section

namespace Cert.Kernel.Talk

open Idealize.ShloMosaic Idealize.ShloMosaic.TcCoe Idealize.SL.Sem
open Cert.Kernel Cert.Kernel.Gen

variable {F : FTy → Type} [FloatOps F]

set_option maxRecDepth 65536 in
set_option maxHeartbeats 4000000 in
/-- The printed body reads its device index and runs that device's instructions. -/
theorem body_eq (t : Fin cfg0.N) : bodyAt0 (F := F) t = Prog.op .deviceId (fun c => prog (code c)) := by
  refine congrArg (Prog.op _) (funext fun c => ?_)
  match c with
  | 0 => rfl
  | 1 => rfl
  | 2 => rfl
  | 3 => rfl
  | 4 => rfl
  | 5 => rfl
  | 6 => rfl
  | 7 => rfl

end Cert.Kernel.Talk

end
-- ==== Proof.KernelIdeal.Prog.lean ====
/- The kernel's body as a short list of instructions per device.

   The printed body is one straight line of memory operations under conditions on the device index. Here each
   kind of step of the algorithm is one instruction (start a copy, signal a parent of a tree, wait for a window,
   send a window, compute a partial, combine), a device's place fixes its list of instructions, and `body_eq`
   says that the printed body is exactly: read the device index, run that list. -/
module

public import proofs.«01_k».proof.Proof.Gen.KernelIdeal.Skeleton
public import proofs.«01_k».proof.Proof.Gen.KernelIdeal.Points

@[expose] public section

noncomputable section

namespace Cert.KernelIdeal.Talk

open Idealize.ShloMosaic Idealize.ShloMosaic.TcCoe Idealize.SL.Sem
open Cert.KernelIdeal Cert.KernelIdeal.Gen

variable {F : FTy → Type} [FloatOps F]

/-! ## The two trees -/

/-- The channel a device sends on: the tree (0 or 1) in which it has children. -/
def chan (c : Dev nD) : Fin 2 := ![0, 1, 1, 0, 0, 1, 0, 0] c
/-- A device's children, in the order it sends to them. -/
def kid (c : Dev nD) : Fin 3 → Dev nD :=
  ![![1, 3, 4], ![0, 2, 5], ![3, 6, 6], ![2, 7, 7], ![6, 5, 5], ![4, 7, 7], ![0, 0, 0], ![0, 0, 0]] c
/-- How many children a device has. -/
def fan (c : Dev nD) : Nat := ![3, 3, 2, 2, 2, 2, 0, 0] c
/-- The device that sends device `c` its window of channel `k` (the source of the channel for itself). -/
def par (c : Dev nD) (k : Fin 2) : Dev nD :=
  ![![0, 1], ![0, 1], ![3, 1], ![0, 2], ![0, 5], ![4, 1], ![4, 2], ![3, 5]] c k

/-! ## Memrefs and semaphores -/

abbrev pbM : Memref sig .tc .vmem S2x2x128x260 .bf16 := Memref.whole cc0_scratch0
abbrev xM : Memref sig .tc .vmem S2x128x512 .f32 := Memref.whole cc0_scratch3
abbrev wqM : Memref sig .tc .vmem S512x256 .f32 := Memref.whole cc0_scratch4
abbrev kM : Memref sig .tc .vmem S2x4x64x128 .f32 := Memref.whole cc0_scratch5
abbrev vM : Memref sig .tc .vmem S2x4x64x128 .f32 := Memref.whole cc0_scratch6
abbrev woM : Memref sig .tc .vmem S256x512 .f32 := Memref.whole cc0_scratch7
abbrev ovM : Memref sig .tc .vmem S2x128x512 .bf16 := Memref.whole cc0_scratch9
abbrev outM : Memref sig .tc .hbm S2x128x512 .bf16 := Memref.whole main_v3

theorem pb_inb (k b : Fin 2) : ∀ a, (![k.val, b.val, 0, 0] : Fin 4 → Nat) a + S1x1x128x260.size a ≤ S2x2x128x260.size a := by
  revert k b; decide
theorem pb_words (k b : Fin 2) :
    (Rect.unit (s := S2x2x128x260) ![k.val, b.val, 0, 0] S1x1x128x260.size (pb_inb k b)).WholeWords (EltTy.packing .bf16) := by
  revert k b; decide
theorem o_inb (b : Fin 2) : ∀ a, (![b.val, 0, 0] : Fin 3 → Nat) a + S1x128x512.size a ≤ S2x128x512.size a := by
  revert b; decide
theorem o_words (b : Fin 2) :
    (Rect.unit (s := S2x128x512) ![b.val, 0, 0] S1x128x512.size (o_inb b)).WholeWords (EltTy.packing .bf16) := by
  revert b; decide
theorem o_packed (b : Fin 2) :
    (Rect.unit (s := S2x128x512) ![b.val, 0, 0] S1x128x512.size (o_inb b)).PackedRows (EltTy.packing .bf16) := by
  revert b; decide
theorem kv_inb (b : Fin 2) (h : Fin 4) :
    ∀ a, (![b.val, h.val, 0, 0] : Fin 4 → Nat) a + S1x1x64x128.size a ≤ S2x4x64x128.size a := by
  revert b h; decide
theorem v_inb (b : Fin 2) : ∀ a, (![b.val, 0, 0, 0] : Fin 4 → Nat) a + S1x4x64x128.size a ≤ S2x4x64x128.size a := by
  revert b; decide
theorem x_inb (b : Fin 2) : ∀ a, (![b.val, 0, 0] : Fin 3 → Nat) a + S1x128x512.size a ≤ S2x128x512.size a := by
  revert b; decide
theorem ctx_inb (k b : Fin 2) (h : Fin 4) :
    ∀ a, (![k.val, b.val, 0, 64 * h.val] : Fin 4 → Nat) a + S1x1x128x64.size a ≤ S2x2x128x260.size a := by
  revert k b h; decide
theorem ctx_packed (k b : Fin 2) (h : Fin 4) :
    (Rect.unit (s := S2x2x128x260) ![k.val, b.val, 0, 64 * h.val] S1x1x128x64.size (ctx_inb k b h)).PackedRows (EltTy.packing .bf16) := by
  revert k b h; decide
theorem den_inb (k b : Fin 2) (h : Fin 4) :
    ∀ a, (![k.val, b.val, 0, 256 + h.val] : Fin 4 → Nat) a + S1x1x128x1.size a ≤ S2x2x128x260.size a := by
  revert k b h; decide
theorem den_packed (k b : Fin 2) (h : Fin 4) :
    (Rect.unit (s := S2x2x128x260) ![k.val, b.val, 0, 256 + h.val] S1x1x128x1.size (den_inb k b h)).PackedRows (EltTy.packing .bf16) := by
  revert k b h; decide
theorem q_slices (h : Fin 4) : S128x256.Slices ![0, 64 * h.val] S128x64 := by revert h; decide
theorem vt_slices (h : Fin 4) : S4x128x64.Slices ![h.val, 0, 0] S1x128x64 := by revert h; decide

/-- The rectangle of window `(k, b)` of the exchange buffer. -/
abbrev pbR (k b : Fin 2) : Rect S2x2x128x260 := Rect.unit (s := S2x2x128x260) ![k.val, b.val, 0, 0] S1x1x128x260.size (pb_inb k b)
/-- The rectangle of batch row `b` of the output. -/
abbrev oR (b : Fin 2) : Rect S2x128x512 := Rect.unit (s := S2x128x512) ![b.val, 0, 0] S1x128x512.size (o_inb b)
abbrev ctxR (k b : Fin 2) (h : Fin 4) : Rect S2x2x128x260 :=
  Rect.unit (s := S2x2x128x260) ![k.val, b.val, 0, 64 * h.val] S1x1x128x64.size (ctx_inb k b h)
abbrev denR (k b : Fin 2) (h : Fin 4) : Rect S2x2x128x260 :=
  Rect.unit (s := S2x2x128x260) ![k.val, b.val, 0, 256 + h.val] S1x1x128x1.size (den_inb k b h)
abbrev wqR : Rect S512x256 := Rect.unit (s := S512x256) ![0, 0] S512x256.size inb_S512x256_S512x256_0_0
abbrev woR : Rect S256x512 := Rect.unit (s := S256x512) ![0, 0] S256x512.size inb_S256x512_S256x512_0_0
abbrev xR (b : Fin 2) : Rect S2x128x512 := Rect.unit (s := S2x128x512) ![b.val, 0, 0] S1x128x512.size (x_inb b)
abbrev vR (b : Fin 2) : Rect S2x4x64x128 := Rect.unit (s := S2x4x64x128) ![b.val, 0, 0, 0] S1x4x64x128.size (v_inb b)
abbrev kR (b : Fin 2) (h : Fin 4) : Rect S2x4x64x128 :=
  Rect.unit (s := S2x4x64x128) ![b.val, h.val, 0, 0] S1x1x64x128.size (kv_inb b h)

/-- Window `(k, b)` of the exchange buffer. -/
abbrev pbW (k b : Fin 2) : Memref sig .tc .vmem S128x260 .bf16 :=
  (pbM.slice (pbR k b) (fun _ => rfl)).squeeze S128x260 squeezes_S1x1x128x260_S128x260
/-- Batch row `b` of the staged output. -/
abbrev ovW (b : Fin 2) : Memref sig .tc .vmem S128x512 .bf16 :=
  (ovM.slice (oR b) (fun _ => rfl)).squeeze S128x512 squeezes_S1x128x512_S128x512
/-- Batch row `b` of the result. -/
abbrev outW (b : Fin 2) : Memref sig .tc .hbm S128x512 .bf16 :=
  (outM.slice (oR b) (fun _ => rfl)).squeeze S128x512 squeezes_S1x128x512_S128x512

abbrev sendS (s : Fin 8) : DmaSem sig := ⟨s.val, by have := s.isLt; show s.val < 19; omega⟩
abbrev recvS (k b : Fin 2) : DmaSem sig := ⟨8 + 2 * k.val + b.val, by have := k.isLt; have := b.isLt; show _ < 19; omega⟩
abbrev locS (i : Fin 5) : DmaSem sig := ⟨12 + i.val, by have := i.isLt; show _ < 19; omega⟩
abbrev outS (b : Fin 2) : DmaSem sig := ⟨17 + b.val, by have := b.isLt; show _ < 19; omega⟩
abbrev barS : Sem sig := ⟨0, by decide⟩

theorem pbM_whole : pbM.IsWhole := Memref.isWhole_whole _
theorem ovM_whole : ovM.IsWhole := Memref.isWhole_whole _
theorem outM_whole : outM.IsWhole := Memref.isWhole_whole _
theorem pbW_exact (k b : Fin 2) : (pbW k b).view.WordExact := (pbM_whole.wordExact_slice rfl _ (pb_words k b)).reshape _ _
theorem ovW_exact (b : Fin 2) : (ovW b).view.WordExact := (ovM_whole.wordExact_slice rfl _ (o_words b)).reshape _ _
theorem outW_exact (b : Fin 2) : (outW b).view.WordExact := (outM_whole.wordExact_slice rfl _ (o_words b)).reshape _ _

/-! ## The values -/

/-- Queries of one batch row. -/
def qV (wq : Vec F S512x256 .f32) (x : Vec F S1x128x512 .f32) : FVec F S128x256 .bf16 := k0_pay1 wq x
/-- Values of one batch row, heads first. -/
def vtV (v : Vec F S1x4x64x128 .f32) : FVec F S4x128x64 .bf16 := k0_pay2 v
/-- The column of ones that turns the product with the weights into their sum. -/
def onesV : FVec F S128x1 .bf16 := k0_pay3

/-- Exponentials of the scaled scores of head `h`; shard 1 keeps key `j` for query `i` when `j ≤ i`. -/
def expV (s : Fin 2) (h : Fin 4) (q : FVec F S128x256 .bf16) (k : Vec F S1x1x64x128 .f32) : FVec F S128x128 .f32 :=
  let sc : FVec F S128x128 .f32 :=
    mulf (matmul dot_S128x64_S64x128_S128x128_1_0_0_1_n_n none
        (extractStridedSlice S128x64 ![0, 64 * h.val] q (q_slices h))
        (truncf .bf16 (shapeCast S64x128 k shapeCasts_S1x1x64x128_S64x128 : FVec F S64x128 .f32) bitsLt_bf16_f32)
        (constant S128x128 .f32 0x00000000#32))
      (broadcast S128x128 (Scalar.ofBits .f32 0x3E000000#32 : F .f32))
  if s.val = 1 then
    select (cmpi .sle (iota .tc S128x128 32 [1] iota_S128x128_d1_w32) (iota .tc S128x128 32 [0] iota_S128x128_d0_w32))
      (exp sc) (broadcast S128x128 (Scalar.ofBits .f32 0x00000000#32 : F .f32))
  else exp sc

/-- The unnormalised context of head `h` (64 columns) and, in column 64, its denominator. -/
def partV (s : Fin 2) (h : Fin 4) (q : FVec F S128x256 .bf16) (vt : FVec F S4x128x64 .bf16) (ones : FVec F S128x1 .bf16)
    (k : Vec F S1x1x64x128 .f32) : FVec F S128x65 .f32 :=
  matmul dot_S128x128_S128x65_S128x65_1_0_0_1_n_n none
    (truncf .bf16 (expV s h q k) bitsLt_bf16_f32)
    (concatenate S128x65 1
      [⟨S128x64, shapeCast S128x64 (extractStridedSlice S1x128x64 ![h.val, 0, 0] vt (vt_slices h)) shapeCasts_S1x128x64_S128x64⟩,
       ⟨S128x1, ones⟩] concatenates_S128x64_S128x1_S128x65_d1)
    (constant S128x65 .f32 0x00000000#32)
/-- What is stored of it: the context. -/
def ctxV (s : Fin 2) (h : Fin 4) (q : FVec F S128x256 .bf16) (vt : FVec F S4x128x64 .bf16) (ones : FVec F S128x1 .bf16)
    (k : Vec F S1x1x64x128 .f32) : FVec F S1x1x128x64 .bf16 :=
  shapeCast S1x1x128x64 (truncf .bf16 (extractStridedSlice S128x64 ![0, 0] (partV s h q vt ones k) slices_S128x65_o0_0_S128x64)
    bitsLt_bf16_f32) shapeCasts_S128x64_S1x1x128x64
/-- What is stored of it: the denominator. -/
def denV (s : Fin 2) (h : Fin 4) (q : FVec F S128x256 .bf16) (vt : FVec F S4x128x64 .bf16) (ones : FVec F S128x1 .bf16)
    (k : Vec F S1x1x64x128 .f32) : FVec F S1x1x128x1 .bf16 :=
  shapeCast S1x1x128x1 (truncf .bf16 (extractStridedSlice S128x1 ![0, 64] (partV s h q vt ones k) slices_S128x65_o0_64_S128x1)
    bitsLt_bf16_f32) shapeCasts_S128x1_S1x1x128x1
/-- The combined output of one batch row from the two windows. -/
def combV (wo : Vec F S256x512 .f32) (p0 p1 : Vec F S1x1x128x260 .bf16) : FVec F S1x128x512 .bf16 := k0_pay86 wo p0 p1

/-! ## The instructions -/

/-- One step of the algorithm. -/
inductive Ins where
  | startL (i : Fin 5)
  | waitL (i : Fin 5)
  | sig (p : Dev nD)
  | waitB (n : Nat)
  | recv (k b : Fin 2)
  | send (c : Dev nD) (b : Fin 2) (j : Fin 3)
  | waitS (c : Dev nD) (b : Fin 2) (j : Fin 3)
  | part (s b : Fin 2) (w : Bool)
  | comb (b : Fin 2)
  | outL (b : Fin 2)
  | waitO (b : Fin 2)

abbrev PrT (F : FTy → Type) [FloatOps F] : Type _ := Prog (TpuEff nD τ sig (Elt F) Λ₀ .tc) PUnit

/-- Start the copy of input `i` into its scratch buffer. -/
def startL (i : Fin 5) : PrT F := match i with
  | 0 => Prog.lift (.enqueueDma (Memref.whole main_arg0) (.here xM) (.dma (locS 0)) (Memref.isWhole_whole _).wordExact (Memref.isWhole_whole _).wordExact ⟨Or.inl rfl, trivial⟩)
  | 1 => Prog.lift (.enqueueDma (Memref.whole main_arg1) (.here wqM) (.dma (locS 1)) (Memref.isWhole_whole _).wordExact (Memref.isWhole_whole _).wordExact ⟨Or.inl rfl, trivial⟩)
  | 2 => Prog.lift (.enqueueDma (Memref.whole main_v1) (.here kM) (.dma (locS 2)) (Memref.isWhole_whole _).wordExact (Memref.isWhole_whole _).wordExact ⟨Or.inl rfl, trivial⟩)
  | 3 => Prog.lift (.enqueueDma (Memref.whole main_v2) (.here vM) (.dma (locS 3)) (Memref.isWhole_whole _).wordExact (Memref.isWhole_whole _).wordExact ⟨Or.inl rfl, trivial⟩)
  | 4 => Prog.lift (.enqueueDma (Memref.whole main_arg4) (.here woM) (.dma (locS 4)) (Memref.isWhole_whole _).wordExact (Memref.isWhole_whole _).wordExact ⟨Or.inl rfl, trivial⟩)

/-- Wait for the copy of input `i`. -/
def waitL (i : Fin 5) : PrT F := match i with
  | 0 => Prog.lift (.waitDma2 (locS 0) (Memref.whole main_arg0) xM (Memref.isWhole_whole _).wordExact (Memref.isWhole_whole _).wordExact)
  | 1 => Prog.lift (.waitDma2 (locS 1) (Memref.whole main_arg1) wqM (Memref.isWhole_whole _).wordExact (Memref.isWhole_whole _).wordExact)
  | 2 => Prog.lift (.waitDma2 (locS 2) (Memref.whole main_v1) kM (Memref.isWhole_whole _).wordExact (Memref.isWhole_whole _).wordExact)
  | 3 => Prog.lift (.waitDma2 (locS 3) (Memref.whole main_v2) vM (Memref.isWhole_whole _).wordExact (Memref.isWhole_whole _).wordExact)
  | 4 => Prog.lift (.waitDma2 (locS 4) (Memref.whole main_arg4) woM (Memref.isWhole_whole _).wordExact (Memref.isWhole_whole _).wordExact)

/-- Head `h` of a partial: read the keys, store the context and the denominator. -/
def headP (s b : Fin 2) (h : Fin 4) (q : FVec F S128x256 .bf16) (vt : FVec F S4x128x64 .bf16) (ones : FVec F S128x1 .bf16) : PrT F := do
  let k : Vec F S1x1x64x128 .f32 ← Prog.lift (.load kM (kR b h).toLoadRect (View.loadsAt_vmem h_S1x1x64x128))
  let _u : Vec F S1x1x128x64 .bf16 ← Prog.lift (.load pbM (ctxR s b h).toLoadRect (View.loadsAt_vmem h_S1x1x128x64))
  Prog.lift (.store pbM (ctxR s b h) (ctxV s h q vt ones k) Finset.univ (View.stores_vmem h_S1x1x128x64 (pbM_whole.storeExact_slice rfl _ (ctx_packed s b h)) (fun _ => rfl)) (.inl rfl))
  let _w : Vec F S1x1x128x1 .bf16 ← Prog.lift (.load pbM (denR s b h).toLoadRect (View.loadsAt_vmem h_S1x1x128x1))
  Prog.lift (.store pbM (denR s b h) (denV s h q vt ones k) Finset.univ (View.stores_vmem h_S1x1x128x1 (pbM_whole.storeExact_slice rfl _ (den_packed s b h)) (fun _ => rfl)) (.inl rfl))

/-- The partial of batch row `b` over shard `s`. -/
def partP (s b : Fin 2) (w : Bool) : PrT F := do
  let wq : Vec F S512x256 .f32 ← Prog.lift (.load wqM wqR.toLoadRect (View.loadsAt_vmem h_S512x256))
  let x : Vec F S1x128x512 .f32 ← Prog.lift (.load xM (xR b).toLoadRect (View.loadsAt_vmem h_S1x128x512))
  (match w with | true => (do waitL 2; waitL 3) | false => Prog.ret ⟨⟩)
  let v : Vec F S1x4x64x128 .f32 ← Prog.lift (.load vM (vR b).toLoadRect (View.loadsAt_vmem h_S1x4x64x128))
  headP s b 0 (qV wq x) (vtV v) onesV
  headP s b 1 (qV wq x) (vtV v) onesV
  headP s b 2 (qV wq x) (vtV v) onesV
  headP s b 3 (qV wq x) (vtV v) onesV

/-- Combine the two windows of batch row `b` into the staged output. -/
def combP (b : Fin 2) : PrT F := do
  let wo : Vec F S256x512 .f32 ← Prog.lift (.load woM woR.toLoadRect (View.loadsAt_vmem h_S256x512))
  let p0 : Vec F S1x1x128x260 .bf16 ← Prog.lift (.load pbM (pbR 0 b).toLoadRect (View.loadsAt_vmem h_S1x1x128x260))
  let p1 : Vec F S1x1x128x260 .bf16 ← Prog.lift (.load pbM (pbR 1 b).toLoadRect (View.loadsAt_vmem h_S1x1x128x260))
  let _u : Vec F S1x128x512 .bf16 ← Prog.lift (.load ovM (oR b).toLoadRect (View.loadsAt_vmem h_S1x128x512))
  Prog.lift (.store ovM (oR b) (combV wo p0 p1) Finset.univ (View.stores_vmem h_S1x128x512 (ovM_whole.storeExact_slice rfl _ (o_packed b)) (fun _ => rfl)) (.inl rfl))

/-- The slot of the send semaphore for child `j` and batch row `b`. -/
def slot (c : Dev nD) (b : Fin 2) (j : Fin 3) : Fin 8 := ⟨b.val * fan c + j.val, by
  have hb := b.isLt; have hj := j.isLt
  have hf : fan c ≤ 3 := by revert c; decide
  have : b.val * fan c ≤ 1 * 3 := Nat.mul_le_mul (by omega) hf
  omega⟩

/-- The program of an instruction. -/
def Ins.run : Ins → PrT F
  | .startL i => Talk.startL i
  | .waitL i => Talk.waitL i
  | .sig p => .op (.semSignal (p, .tc) barS 1) .ret
  | .waitB n => .op (.semWait barS n) .ret
  | .recv k b => Prog.lift (.waitDma2 (recvS k b) (pbW k b) (pbW k b) (pbW_exact k b) (pbW_exact k b))
  | .send c b j => Prog.lift (.enqueueDma (pbW (chan c) b) (.remote (Dev.tc (kid c j)) (pbW (chan c) b) (.dma (sendS (slot c b j)))) (.dma (recvS (chan c) b))
      (pbW_exact _ b) (pbW_exact _ b) ⟨⟨rfl, Or.inl rfl⟩, trivial⟩)
  | .waitS c b j => Prog.lift (.waitDma2 (sendS (slot c b j)) (pbW (chan c) b) (pbW (chan c) b) (pbW_exact _ b) (pbW_exact _ b))
  | .part s b w => partP s b w
  | .comb b => combP b
  | .outL b => Prog.lift (.enqueueDma (ovW b) (.here (outW b)) (.dma (outS b)) (ovW_exact b) (outW_exact b) ⟨Or.inl rfl, trivial⟩)
  | .waitO b => Prog.lift (.waitDma2 (outS b) (ovW b) (outW b) (ovW_exact b) (outW_exact b))

/-- A list of instructions, in order. -/
def prog : List Ins → PrT F
  | [] => .ret ⟨⟩
  | i :: l => i.run >>= fun _ => prog l

/-- The last steps of every device. -/
abbrev tail2 : List Ins := [.waitO 0, .waitO 1]

/-- A source's instructions (devices 0 and 1): `o` is the other source. -/
def srcCode (c o : Dev nD) (k ok : Fin 2) : List Ins :=
  [.startL 4, .startL 0, .startL 1, .startL 2, .startL 3, .sig o, .waitL 0, .waitL 1, .part k 0 true, .waitB 3,
   .send c 0 0, .send c 0 1, .send c 0 2, .part k 1 false, .send c 1 0, .send c 1 1, .send c 1 2, .waitL 4,
   .recv ok 0, .comb 0, .outL 0, .recv ok 1, .comb 1, .outL 1,
   .waitS c 0 0, .waitS c 0 1, .waitS c 0 2, .waitS c 1 0, .waitS c 1 1, .waitS c 1 2, .waitO 0, .waitO 1]
/-- A forwarder's instructions (devices 2 to 5). -/
def fwdCode (c p0 p1 : Dev nD) (k ok : Fin 2) : List Ins :=
  [.startL 4, .sig p0, .sig p1, .waitB 2, .recv k 0, .send c 0 0, .send c 0 1, .recv k 1, .send c 1 0, .send c 1 1, .waitL 4,
   .recv ok 0, .comb 0, .outL 0, .recv ok 1, .comb 1, .outL 1,
   .waitS c 0 0, .waitS c 0 1, .waitS c 1 0, .waitS c 1 1, .waitO 0, .waitO 1]
/-- A leaf's instructions (devices 6 and 7). -/
def leafCode (p0 p1 : Dev nD) : List Ins :=
  [.startL 4, .sig p0, .sig p1, .waitL 4, .recv 0 0, .recv 1 0, .comb 0, .outL 0, .recv 0 1, .recv 1 1, .comb 1, .outL 1, .waitO 0, .waitO 1]

/-- The instructions of device `c`. -/
def code (c : Dev nD) : List Ins :=
  ![srcCode 0 1 0 1, srcCode 1 0 1 0, fwdCode 2 3 1 1 0, fwdCode 3 0 2 0 1, fwdCode 4 0 5 0 1, fwdCode 5 4 1 1 0,
    leafCode 4 2, leafCode 3 5] c

end Cert.KernelIdeal.Talk

end
-- ==== Proof.KernelIdeal.Book.lean ====
/- The bookkeeping of the exchange, as finite data.

   What a device holds between two of its instructions is a list of named holdings (`Res`): its position on each of its
   semaphores, the credits it may spend waiting, the duties it has still to pay, the input and scratch buffers, the
   windows of the exchange buffer, and the output rows. An instruction turns some holdings (`pre`) into others (`post`);
   `sim` runs a device's list of instructions on such lists, and `sim_ok` checks, for each of the eight devices, that
   its instructions can be run from what it has at launch (`init`) to what it must give back at the end (`final`),
   every wait being below everything then still owed. -/
module

public import proofs.«01_k».proof.Proof.KernelIdeal.Prog

@[expose] public section

noncomputable section

namespace Cert.KernelIdeal.Talk

open Idealize.ShloMosaic Idealize.ShloMosaic.TcCoe Idealize.SL.Sem
open Cert.KernelIdeal Cert.KernelIdeal.Gen

/-! ## The semaphores of a device -/

/-- A semaphore of a device. -/
inductive Sm where
  | bar
  | send (s : Fin 8)
  | recv (k b : Fin 2)
  | loc (i : Fin 5)
  | out (b : Fin 2)
deriving DecidableEq

/-- Its place in the signature. -/
abbrev Sm.sem : Sm → SemLoc sig
  | .bar => .reg barS
  | .send s => .dma (sendS s)
  | .recv k b => .dma (recvS k b)
  | .loc i => .dma (locS i)
  | .out b => .dma (outS b)

/-- The transfer semaphores, in the order of the signature. -/
def smTab : Fin 19 → Sm :=
  ![.send 0, .send 1, .send 2, .send 3, .send 4, .send 5, .send 6, .send 7, .recv 0 0, .recv 0 1, .recv 1 0, .recv 1 1,
    .loc 0, .loc 1, .loc 2, .loc 3, .loc 4, .out 0, .out 1]

/-- The semaphore at a place of the signature. -/
def dec : SemLoc sig → Sm
  | .reg _ => .bar
  | .dma d => smTab ⟨d.val, d.isLt⟩

theorem dec_sem (q : Sm) : dec q.sem = q := by
  cases q with
  | bar => rfl
  | send s => revert s; decide
  | recv k b => revert k b; decide
  | loc i => revert i; decide
  | out b => revert b; decide

theorem smTab_sem (d : Fin 19) : (smTab d).sem = .dma ⟨d.val, d.isLt⟩ := by revert d; decide

theorem sem_inj {q q' : Sm} (h : q.sem = q'.sem) : q = q' := by rw [← dec_sem q, h, dec_sem]

/-! ## Who pays what -/

/-- The device that computes the partials over shard `k`. -/
abbrev srcDev (k : Fin 2) : Dev nD := ⟨k.val, by have := k.isLt; show _ < 8; omega⟩

/-- The children of a device, in the order it sends to them. -/
def kids (c : Dev nD) : List (Dev nD) := ![[1, 3, 4], [0, 2, 5], [3, 6], [2, 7], [6, 5], [4, 7], [], []] c

/-- Who pays a unit of the (only) round of semaphore `q` on device `p`: the children signal the barrier; the parent in
    tree `k` fills window `(k, b)`; a device's own copies and sends pay its other semaphores. -/
def dutL (p : Dev nD) : Sm → List (Dev nD)
  | .bar => kids p
  | .recv k _ => if p = srcDev k then [] else [par p k]
  | .send s => if s.val < 2 * fan p then [p] else []
  | .loc i => if i = 4 ∨ p.val < 2 then [p] else []
  | .out _ => [p]

theorem dutL_nodup (p : Dev nD) (q : Sm) : (dutL p q).Nodup := by
  cases q with
  | bar => revert p; decide
  | recv k b => revert p k b; decide
  | send s => revert p s; decide
  | loc i => revert p i; decide
  | out b => revert p b; decide

/-- The level of a semaphore: a wait is allowed below everything then owed. -/
def lvl (p : Dev nD) : Sm → Nat
  | .bar => 1
  | .recv k _ => if par p k = srcDev k then 2 else 3
  | _ => 0

/-! ## Holdings -/

/-- A holding of a device. -/
inductive Res where
  /-- its position on a semaphore: before or after the only round -/
  | pos (q : Sm) (r : Bool)
  /-- the credit a wait spends -/
  | cred (q : Sm)
  /-- a duty of its own on semaphore `q` of device `d`, not yet paid -/
  | tok (d : Dev nD) (q : Sm)
  /-- the `i`-th input in HBM -/
  | hbm (i : Fin 5)
  /-- the `i`-th input's scratch buffer, at any contents -/
  | raw (i : Fin 5)
  /-- the `i`-th input's scratch buffer, holding the input -/
  | vm (i : Fin 5)
  /-- window `(k, b)` at any contents -/
  | wraw (k b : Fin 2)
  /-- what is left of the filled window `(k, b)` beside the three parts to lend to sends -/
  | keep (k b : Fin 2)
  /-- the part of the filled window lent to the send to the `j`-th child -/
  | sh (k b : Fin 2) (j : Fin 3)
  /-- child `t`'s window for batch row `b`, to be filled -/
  | grant (t : Dev nD) (b : Fin 2)
  /-- batch row `b` of the staged output, at any contents -/
  | oraw (b : Fin 2)
  /-- batch row `b` of the result, at any contents -/
  | hraw (b : Fin 2)
  /-- batch row `b` of the staged output, combined -/
  | ost (b : Fin 2)
  /-- the staged row and the result row, both combined -/
  | ofin (b : Fin 2)
deriving DecidableEq

/-- The filled window, in its four parts. -/
def full (k b : Fin 2) : List Res := [.keep k b, .sh k b 0, .sh k b 1, .sh k b 2]

/-- The batch row and the child of a send slot. -/
def slotB (c : Dev nD) (s : Fin 8) : Fin 2 := if s.val < fan c then 0 else 1
def slotJ (c : Dev nD) (s : Fin 8) : Fin 3 := ⟨(s.val - (slotB c s).val * fan c) % 3, Nat.mod_lt _ (by decide)⟩

/-- What a duty of device `d` hands over on semaphore `q` of device `p`. -/
def paySet (p : Dev nD) (q : Sm) (d : Dev nD) : List Res :=
  match q with
  | .bar => [.grant d 0, .grant d 1]
  | .recv k b => full k b
  | .send s => [.sh (chan p) (slotB p s) (slotJ p s)]
  | .loc i => [.hbm i, .vm i]
  | .out b => [.ofin b]

/-! ## What instructions do to holdings -/

/-- What a wait on semaphore `q` takes and gives. -/
def wPre (q : Sm) : List Res := [.pos q false, .cred q]
def wPost (c : Dev nD) (q : Sm) : List Res := .pos q true :: (dutL c q).flatMap (paySet c q)

/-- What an instruction takes. -/
def pre (c : Dev nD) : Ins → List Res
  | .startL i => [.hbm i, .raw i, .tok c (.loc i)]
  | .waitL i => wPre (.loc i)
  | .sig p => [.tok p .bar, .wraw (chan p) 0, .wraw (chan p) 1]
  | .waitB _ => wPre .bar
  | .recv k b => wPre (.recv k b)
  | .send _ b j => [.sh (chan c) b j, .grant (kid c j) b, .tok (kid c j) (.recv (chan c) b), .tok c (.send (slot c b j))]
  | .waitS _ b j => wPre (.send (slot c b j))
  | .part k b w => .wraw k b :: .vm 0 :: .vm 1 :: (if w then wPre (.loc 2) ++ wPre (.loc 3) else [.vm 2, .vm 3])
  | .comb b => [.vm 4, .keep 0 b, .keep 1 b, .oraw b]
  | .outL b => [.ost b, .hraw b, .tok c (.out b)]
  | .waitO b => wPre (.out b)

/-- What an instruction gives. -/
def post (c : Dev nD) : Ins → List Res
  | .startL i => [.cred (.loc i)]
  | .waitL i => wPost c (.loc i)
  | .sig _ => []
  | .waitB _ => wPost c .bar
  | .recv k b => wPost c (.recv k b)
  | .send _ b j => [.cred (.send (slot c b j))]
  | .waitS _ b j => wPost c (.send (slot c b j))
  | .part k b w => full k b ++ .vm 0 :: .vm 1 :: .vm 2 :: .vm 3 ::
      (if w then [.pos (.loc 2) true, .hbm 2, .pos (.loc 3) true, .hbm 3] else [])
  | .comb b => [.vm 4, .keep 0 b, .keep 1 b, .ost b]
  | .outL b => [.cred (.out b)]
  | .waitO b => wPost c (.out b)

/-- The level at which an instruction waits (0 if it doesn't). -/
def insLvl (c : Dev nD) : Ins → Nat
  | .waitB _ => lvl c .bar
  | .recv k b => lvl c (.recv k b)
  | _ => 0

/-- What an instruction needs of its place. -/
def ok (c : Dev nD) : Ins → Bool
  | .startL i => dutL c (.loc i) = [c]
  | .waitL i => dutL c (.loc i) = [c]
  | .sig p => c ∈ dutL p .bar ∧ p ≠ c
  | .waitB n => (dutL c .bar).length = n
  | .recv k b => (dutL c (.recv k b)).length = 1
  | .send c' b j => c' = c ∧ kid c j ≠ c ∧ dutL (kid c j) (.recv (chan c) b) = [c] ∧ dutL c (.send (slot c b j)) = [c] ∧
      slotB c (slot c b j) = b ∧ slotJ c (slot c b j) = j
  | .waitS c' b j => c' = c ∧ (dutL c (.send (slot c b j))).length = 1
  | .part k _ w => c = srcDev k ∧ (w → dutL c (.loc 2) = [c] ∧ dutL c (.loc 3) = [c])
  | .comb _ => true
  | .outL _ => true
  | .waitO _ => true

/-- The remote cell a holding owes to, if it is an unpaid duty on another device. -/
def owesTo (c : Dev nD) : Res → Option (Dev nD × Sm)
  | .tok d q => if d = c then none else some (d, q)
  | _ => none

/-- Everything owed lies above level `n`. -/
def above (c : Dev nD) (n : Nat) (l : List Res) : Bool :=
  l.all fun r => match owesTo c r with
    | none => true
    | some (d, q) => decide (n < lvl d q)

/-- Take the holdings `P` out of `l`. -/
def takeAll : List Res → List Res → Option (List Res)
  | [], l => some l
  | p :: P, l => if p ∈ l then takeAll P (l.erase p) else none

/-- Run a list of instructions on holdings. -/
def sim (c : Dev nD) : List Ins → List Res → Option (List Res)
  | [], l => some l
  | i :: is, l =>
    match takeAll (pre c i) l with
    | none => none
    | some r => if ok c i && above c (insLvl c i) (pre c i ++ r) then sim c is (post c i ++ r) else none

/-- All semaphores of a device. -/
def sms : List Sm := (List.finRange 19).map smTab

/-- The duties a device has to pay, as (device, semaphore) pairs. -/
def toks (c : Dev nD) : List (Dev nD × Sm) :=
  ((List.finRange 8).flatMap fun d : Dev nD => (.bar :: sms).filterMap fun q => if c ∈ dutL d q then some (d, q) else none)

/-- The semaphores a device waits on for what others do. -/
def credL (c : Dev nD) : List Sm :=
  [Sm.bar, .recv 0 0, .recv 0 1, .recv 1 0, .recv 1 1].filter fun q => 0 < (dutL c q).length

/-- The buffers at entry. -/
def bufs0 : List Res :=
  [.hbm 0, .hbm 1, .hbm 2, .hbm 3, .hbm 4, .raw 0, .raw 1, .raw 2, .raw 3, .raw 4,
   .wraw 0 0, .wraw 0 1, .wraw 1 0, .wraw 1 1, .oraw 0, .oraw 1, .hraw 0, .hraw 1]
/-- The buffers at the end. -/
def bufs1 (c : Dev nD) : List Res :=
  [.hbm 0, .hbm 1, .hbm 2, .hbm 3, .hbm 4] ++ (if c.val < 2 then [.vm 0, .vm 1, .vm 2, .vm 3] else [.raw 0, .raw 1, .raw 2, .raw 3])
  ++ .vm 4 :: (full 0 0 ++ full 0 1 ++ full 1 0 ++ full 1 1 ++ [.ofin 0, .ofin 1])

/-- What a device holds when its instructions begin. -/
def init (c : Dev nD) : List Res :=
  (.pos .bar false :: sms.map fun q => Res.pos q false) ++ (credL c).map Res.cred ++ (toks c).map (fun t => Res.tok t.1 t.2) ++ bufs0

/-- What it holds when they are done. -/
def final (c : Dev nD) : List Res :=
  (.pos .bar (!(dutL c .bar).isEmpty) :: sms.map fun q => Res.pos q (!(dutL c q).isEmpty)) ++ bufs1 c

/-- Every device's instructions run from its initial holdings to exactly its final ones. -/
def simOk (c : Dev nD) : Bool :=
  match sim c (code c) (init c) with
  | none => false
  | some l => takeAll (final c) l == some []

set_option maxRecDepth 100000 in
theorem sim_ok (c : Dev nD) : simOk c = true := by
  revert c; decide +kernel

end Cert.KernelIdeal.Talk

end
-- ==== Proof.KernelIdeal.Vals.lean ====
/- The contents the exchange hands over, as functions of every device's inputs.

   `PB` is the filled exchange buffer: window `(k, b)` is the partial that device `k` computes from its own inputs, head
   by head. It is the same on every device. `OUT` is a device's result. -/
module

public import proofs.«01_k».proof.Proof.KernelIdeal.Book
public import Idealize.ShloMosaic.Lib.Tactic
public import Idealize.ShloMosaic.Lib.Writes

@[expose] public section

noncomputable section

namespace Cert.KernelIdeal.Talk

open Idealize.ShloMosaic Idealize.ShloMosaic.TcCoe Idealize.SL.Sem
open Cert.KernelIdeal Cert.KernelIdeal.Gen

variable {F : FTy → Type} [FloatOps F]

/-- One device's inputs as the kernel reads them (the keys and values already transposed). -/
structure Inp (F : FTy → Type) [FloatOps F] where
  x : Vec F S2x128x512 .f32
  wq : Vec F S512x256 .f32
  k : Vec F S2x4x64x128 .f32
  v : Vec F S2x4x64x128 .f32
  wo : Vec F S256x512 .f32

variable (A : Dev nD → Inp F)

/-- Queries, values and keys of batch row `b` on the source device of shard `k`. -/
def qS (k b : Fin 2) : FVec F S128x256 .bf16 :=
  qV ((wqM.access wqR).read (Elt F) (A (srcDev k)).wq) ((xM.access (xR b)).read (Elt F) (A (srcDev k)).x)
def vtS (k b : Fin 2) : FVec F S4x128x64 .bf16 := vtV ((vM.access (vR b)).read (Elt F) (A (srcDev k)).v)
def kS (k b : Fin 2) (h : Fin 4) : Vec F S1x1x64x128 .f32 := (kM.access (kR b h)).read (Elt F) (A (srcDev k)).k

/-- An index of a rectangle from one of the whole, coordinate by coordinate. -/
def locIdx {s : Shape} (r : Rect s) (hp : ∀ a, 0 < r.size a) (i : s.Idx) : r.shape.Idx :=
  fun a => ⟨((i a).val - r.off a) % r.size a, Nat.mod_lt _ (hp a)⟩

theorem ctx_pos (k b : Fin 2) (h : Fin 4) : ∀ a, 0 < (ctxR k b h).size a := by
  intro a; show 0 < S1x1x128x64.size a; revert a; decide
theorem den_pos (k b : Fin 2) (h : Fin 4) : ∀ a, 0 < (denR k b h).size a := by
  intro a; show 0 < S1x1x128x1.size a; revert a; decide
theorem o_pos (b : Fin 2) : ∀ a, 0 < (oR b).size a := by
  intro a; show 0 < S1x128x512.size a; revert a; decide

/-- An index of a unit-stride rectangle is found back from its place in the whole. -/
theorem locIdx_emb {s : Shape} (off size : Fin s.rank → Nat) (inb) (hp) (j : (Rect.unit off size inb).shape.Idx) :
    locIdx (Rect.unit off size inb) hp ((Rect.unit off size inb).emb j) = j := by
  funext a
  apply Fin.ext
  show ((off a + 1 * (j a).val) - off a) % size a = (j a).val
  rw [Nat.one_mul, Nat.add_sub_cancel_left]
  exact Nat.mod_eq_of_lt (j a).isLt

/-- The head of a column of the contexts, and of a column of the denominators. -/
def hdC (n : Nat) : Fin 4 := ⟨(n / 64) % 4, Nat.mod_lt _ (by decide)⟩
def hdD (n : Nat) : Fin 4 := ⟨(n - 256) % 4, Nat.mod_lt _ (by decide)⟩

/-- The filled exchange buffer. -/
def PB : Vec F S2x2x128x260 .bf16 := fun i =>
  if (i 3).val < 256 then
    ctxV (i 0) (hdC (i 3).val) (qS A (i 0) (i 1)) (vtS A (i 0) (i 1)) onesV (kS A (i 0) (i 1) (hdC (i 3).val))
      (locIdx (ctxR (i 0) (i 1) (hdC (i 3).val)) (ctx_pos _ _ _) i)
  else
    denV (i 0) (hdD (i 3).val) (qS A (i 0) (i 1)) (vtS A (i 0) (i 1)) onesV (kS A (i 0) (i 1) (hdD (i 3).val))
      (locIdx (denR (i 0) (i 1) (hdD (i 3).val)) (den_pos _ _ _) i)

/-- The combined output of batch row `b` on device `c`. -/
def outV (c : Dev nD) (b : Fin 2) : FVec F S1x128x512 .bf16 :=
  combV ((woM.access woR).read (Elt F) (A c).wo) ((pbM.access (pbR 0 b)).read (Elt F) (PB A)) ((pbM.access (pbR 1 b)).read (Elt F) (PB A))

/-- The result on device `c`. -/
def OUT (c : Dev nD) : Vec F S2x128x512 .bf16 := fun i => outV A c (i 0) (locIdx (oR (i 0)) (o_pos _) i)

theorem ctx_emb (k b : Fin 2) (h : Fin 4) (j : (ctxR k b h).shape.Idx) :
    ((ctxR k b h).emb j 0 = k ∧ (ctxR k b h).emb j 1 = b) ∧ ((ctxR k b h).emb j 3).val < 256 ∧ hdC ((ctxR k b h).emb j 3).val = h := by
  have h0 : (j 0).val < 1 := (j 0).isLt
  have h1 : (j 1).val < 1 := (j 1).isLt
  have h3 : (j 3).val < 64 := (j 3).isLt
  have hh := h.isLt
  have e3 : ((ctxR k b h).emb j 3).val = 64 * h.val + 1 * (j 3).val := rfl
  refine ⟨⟨Fin.ext ?_, Fin.ext ?_⟩, by omega, Fin.ext ?_⟩
  · show k.val + 1 * (j 0).val = k.val; omega
  · show b.val + 1 * (j 1).val = b.val; omega
  · show ((ctxR k b h).emb j 3).val / 64 % 4 = h.val; omega

theorem den_emb (k b : Fin 2) (h : Fin 4) (j : (denR k b h).shape.Idx) :
    ((denR k b h).emb j 0 = k ∧ (denR k b h).emb j 1 = b) ∧ ¬ ((denR k b h).emb j 3).val < 256 ∧ hdD ((denR k b h).emb j 3).val = h := by
  have h0 : (j 0).val < 1 := (j 0).isLt
  have h1 : (j 1).val < 1 := (j 1).isLt
  have h3 : (j 3).val < 1 := (j 3).isLt
  have hh := h.isLt
  have e3 : ((denR k b h).emb j 3).val = 256 + h.val + 1 * (j 3).val := rfl
  refine ⟨⟨Fin.ext ?_, Fin.ext ?_⟩, by omega, Fin.ext ?_⟩
  · show k.val + 1 * (j 0).val = k.val; omega
  · show b.val + 1 * (j 1).val = b.val; omega
  · show (((denR k b h).emb j 3).val - 256) % 4 = h.val; omega

/-- The context columns of head `h` in window `(k, b)` of the filled buffer. -/
theorem PB_ctx (k b : Fin 2) (h : Fin 4) (j : (ctxR k b h).shape.Idx) :
    PB A ((ctxR k b h).emb j) = ctxV k h (qS A k b) (vtS A k b) onesV (kS A k b h) j := by
  obtain ⟨⟨e0, e1⟩, e3, eh⟩ := ctx_emb k b h j
  have hl := locIdx_emb (s := S2x2x128x260) _ _ (ctx_inb k b h) (ctx_pos k b h) j
  generalize hi : (ctxR k b h).emb j = i at e0 e1 e3 eh
  rw [show (Rect.unit (s := S2x2x128x260) _ _ (ctx_inb k b h)).emb j = i from hi] at hl
  unfold PB
  rw [if_pos e3, eh]
  subst e0 e1
  exact congrArg _ hl

/-- The denominator column of head `h` in window `(k, b)` of the filled buffer. -/
theorem PB_den (k b : Fin 2) (h : Fin 4) (j : (denR k b h).shape.Idx) :
    PB A ((denR k b h).emb j) = denV k h (qS A k b) (vtS A k b) onesV (kS A k b h) j := by
  obtain ⟨⟨e0, e1⟩, e3, eh⟩ := den_emb k b h j
  have hl := locIdx_emb (s := S2x2x128x260) _ _ (den_inb k b h) (den_pos k b h) j
  generalize hi : (denR k b h).emb j = i at e0 e1 e3 eh
  rw [show (Rect.unit (s := S2x2x128x260) _ _ (den_inb k b h)).emb j = i from hi] at hl
  unfold PB
  rw [if_neg e3, eh]
  subst e0 e1
  exact congrArg _ hl

/-- Batch row `b` of the result. -/
theorem OUT_emb (c : Dev nD) (b : Fin 2) (j : (oR b).shape.Idx) : OUT A c ((oR b).emb j) = outV A c b j := by
  have h0 : (j 0).val < 1 := (j 0).isLt
  have e0 : (oR b).emb j 0 = b := Fin.ext (by show b.val + 1 * (j 0).val = b.val; omega)
  have hl := locIdx_emb (s := S2x128x512) _ _ (o_inb b) (o_pos b) j
  generalize hi : (oR b).emb j = i at e0
  rw [show (Rect.unit (s := S2x128x512) _ _ (o_inb b)).emb j = i from hi] at hl
  unfold OUT
  subst e0
  exact congrArg _ hl

/-! ## The windows as sets of elements -/

/-- The elements of window `(k, b)`. -/
abbrev wS (k b : Fin 2) : Finset S2x2x128x260.Idx := (pbW k b).view.set
/-- The elements of batch row `b` of the staged output, and of the result. -/
abbrev vS (b : Fin 2) : Finset S2x128x512.Idx := (ovW b).view.set
abbrev rS (b : Fin 2) : Finset S2x128x512.Idx := (outW b).view.set

theorem wS_eq (k b : Fin 2) : wS k b = (pbR k b).set := by
  show ((pbM.view.slice (pbR k b)).reshape _ _).set = _
  rw [View.set_reshape, View.set_slice]
  exact Finset.map_refl
theorem vS_eq (b : Fin 2) : vS b = (oR b).set := by
  show ((ovM.view.slice (oR b)).reshape _ _).set = _
  rw [View.set_reshape, View.set_slice]
  exact Finset.map_refl
theorem rS_eq (b : Fin 2) : rS b = (oR b).set := by
  show ((outM.view.slice (oR b)).reshape _ _).set = _
  rw [View.set_reshape, View.set_slice]
  exact Finset.map_refl

theorem mem_wS (k b : Fin 2) (i : S2x2x128x260.Idx) : i ∈ wS k b ↔ i 0 = k ∧ i 1 = b := by
  rw [wS_eq, Rect.mem_set_unit]
  constructor
  · intro h
    have h0 := h 0; have h1 := h 1
    simp at h0 h1
    exact ⟨Fin.ext (by omega), Fin.ext (by omega)⟩
  · rintro ⟨rfl, rfl⟩ a
    have h2 := (i 2).isLt; have h3 := (i 3).isLt
    match a with
    | 0 => simp
    | 1 => simp
    | 2 => exact ⟨Nat.zero_le _, by show (i 2).val < 0 + 128; exact (Nat.zero_add 128).symm ▸ h2⟩
    | 3 => exact ⟨Nat.zero_le _, by show (i 3).val < 0 + 260; exact (Nat.zero_add 260).symm ▸ h3⟩

theorem mem_oR (b : Fin 2) (i : S2x128x512.Idx) : i ∈ (oR b).set ↔ i 0 = b := by
  rw [Rect.mem_set_unit]
  constructor
  · intro h
    have h0 := h 0
    simp at h0
    exact Fin.ext (by omega)
  · rintro rfl a
    have h1 := (i 1).isLt; have h2 := (i 2).isLt
    match a with
    | 0 => simp
    | 1 => exact ⟨Nat.zero_le _, by show (i 1).val < 0 + 128; exact (Nat.zero_add 128).symm ▸ h1⟩
    | 2 => exact ⟨Nat.zero_le _, by show (i 2).val < 0 + 512; exact (Nat.zero_add 512).symm ▸ h2⟩

end Cert.KernelIdeal.Talk

end
-- ==== Proof.KernelIdeal.Sched.lean ====
/- The exchange's schedule: what each holding of the bookkeeping is as a resource, and what each duty hands over. -/
module

public import proofs.«01_k».proof.Proof.KernelIdeal.Vals
public import proofs.«01_k».proof.Proof.Gen.KernelIdeal.Launch
public import Idealize.ShloMosaic.Lib.Pipeline.Regions
public import Idealize.ShloMosaic.Lib.Pipeline.RegionTalk
public import Idealize.ShloMosaic.Lib.Rounds
public import Idealize.ShloMosaic.Lib.Transfers
public import Idealize.ShloMosaic.Lib.StableHlo
public import Idealize.ShloMosaic.Harness.Basic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]

/-- The pipeline library's ghost state and the exchange's. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

variable (A : Dev nD → Inp F)

/-- Semaphore `q` of device `c`. -/
abbrev cell (c : Dev nD) (q : Sm) : GSem nD τ sig := ((c : Thread nD τ), q.sem)

/-- The units one duty of semaphore `q` contributes. -/
def amt : Sm → ℕ
  | .bar => 1
  | .send _ => (pbW 0 0).view.dmaCredit
  | .recv _ _ => (pbW 0 0).view.dmaCredit
  | .loc i => match i with
    | 0 => xM.view.dmaCredit
    | 1 => wqM.view.dmaCredit
    | 2 => kM.view.dmaCredit
    | 3 => vM.view.dmaCredit
    | 4 => woM.view.dmaCredit
  | .out _ => (outW 0).view.dmaCredit

theorem amt_pos (q : Sm) : 0 < amt q := by
  cases q with
  | bar => exact Nat.one_pos
  | send s => exact View.dmaCredit_pos _ (by decide)
  | recv k b => exact View.dmaCredit_pos _ (by decide)
  | loc i => match i with
    | 0 | 1 | 2 | 3 | 4 => exact View.dmaCredit_pos _ (by decide)
  | out b => exact View.dmaCredit_pos _ (by decide)

/-- The units a device waits for on semaphore `q`. -/
def tot (c : Dev nD) (q : Sm) : ℕ := (dutL c q).length * amt q

/-- Whole buffer `b` of device `c` at contents `f`. -/
abbrev pt (c : Dev nD) (b : Ref sig .tc) (f : b.ty.Contents (Elt F)) : sProp 𝕄 := (c : Thread nD τ).loc b ↦{fullShare} f
/-- Elements `S` of the exchange buffer of device `c`, at share `q` and contents `f`. -/
abbrev pbPt (c : Dev nD) (S : Finset S2x2x128x260.Idx) (q : PosShare TreeShare) (f : Vec F S2x2x128x260 .bf16) : sProp 𝕄 :=
  (c : Thread nD τ).loc cc0_scratch0 ↦[S]{q} f
/-- Elements `S` of the staged output of device `c`. -/
abbrev ovPt (c : Dev nD) (S : Finset S2x128x512.Idx) (f : Vec F S2x128x512 .bf16) : sProp 𝕄 :=
  (c : Thread nD τ).loc cc0_scratch9 ↦[S]{fullShare} f
/-- Elements `S` of the result of device `c`. -/
abbrev outPt (c : Dev nD) (S : Finset S2x128x512.Idx) (f : Vec F S2x128x512 .bf16) : sProp 𝕄 :=
  (c : Thread nD τ).loc main_v3 ↦[S]{fullShare} f

/-- A holding of device `c` as a resource. -/
def Φ (c : Dev nD) : Res → sProp 𝕄
  | .pos q r => atPos ER (cell c q) (if r then 1 else 0) ∅ 0
  | .cred q => cred (tallyAt (cell c q) () (tot c q))
  | .tok d q => dutyTok ER (cell d q) 0 c
  | .hbm i => match i with
    | 0 => pt c main_arg0 (A c).x
    | 1 => pt c main_arg1 (A c).wq
    | 2 => pt c main_v1 (A c).k
    | 3 => pt c main_v2 (A c).v
    | 4 => pt c main_arg4 (A c).wo
  | .raw i => match i with
    | 0 => iprop(∃ f, pt c cc0_scratch3 f)
    | 1 => iprop(∃ f, pt c cc0_scratch4 f)
    | 2 => iprop(∃ f, pt c cc0_scratch5 f)
    | 3 => iprop(∃ f, pt c cc0_scratch6 f)
    | 4 => iprop(∃ f, pt c cc0_scratch7 f)
  | .vm i => match i with
    | 0 => pt c cc0_scratch3 (A c).x
    | 1 => pt c cc0_scratch4 (A c).wq
    | 2 => pt c cc0_scratch5 (A c).k
    | 3 => pt c cc0_scratch6 (A c).v
    | 4 => pt c cc0_scratch7 (A c).wo
  | .wraw k b => iprop(∃ f, pbPt c (wS k b) fullShare f)
  | .keep k b => pbPt c (wS k b) (shareDrop fullShare 3) (PB A)
  | .sh k b j => pbPt c (wS k b) (shareTok fullShare 3 j) (PB A)
  | .grant t b => iprop((∃ f, pbPt t (wS (chan c) b) fullShare f) ∗ reached ER (cell t (.recv (chan c) b)) 0)
  | .oraw b => iprop(∃ f, ovPt c (vS b) f)
  | .hraw b => iprop(∃ f, outPt c (rS b) f)
  | .ost b => ovPt c (vS b) (OUT A c)
  | .ofin b => iprop(outPt c (rS b) (OUT A c) ∗ ovPt c (vS b) (OUT A c))

/-- A list of holdings. -/
def hold (c : Dev nD) : List Res → sProp 𝕄
  | [] => iprop(emp)
  | r :: l => iprop(Φ A c r ∗ hold c l)

instance storable_Φ (c : Dev nD) (r : Res) : BI.Storable (upEmb : UEmb _ 𝕄) (Φ A c r) := by
  unfold Φ
  repeat' split
  all_goals infer_instance

instance storable_hold (c : Dev nD) (l : List Res) : BI.Storable (upEmb : UEmb _ 𝕄) (hold A c l) := by
  induction l with
  | nil => unfold hold; infer_instance
  | cons r l ih => unfold hold; infer_instance

/-- The one round of every semaphore of the TensorCores. -/
def rd : Rounds.Schedule (GSem nD τ sig) (Dev nD) 𝕄 where
  duties g r := if r = 0 ∧ g.1.2 = .tc then (dutL g.1.1 (dec g.2)).toFinset else ∅
  unitless _ := False
  amount g _ _ := amt (dec g.2)
  payload g _ d := hold A g.1.1 (paySet g.1.1 (dec g.2) d)
  amount_pos g _ _ _ := amt_pos _

instance storable_rd (g : GSem nD τ sig) (r : ℕ) (d : Dev nD) : BI.Storable (upEmb : UEmb _ 𝕄) ((rd A).payload g r d) := by
  show BI.Storable upEmb (hold A g.1.1 (paySet g.1.1 (dec g.2) d)); infer_instance

theorem duties_eq (c : Dev nD) (q : Sm) : (rd A).duties (cell c q) 0 = (dutL c q).toFinset := by
  dsimp only [rd]; rw [if_pos ⟨rfl, rfl⟩, dec_sem]
theorem duties_later (g : GSem nD τ sig) (r : ℕ) (h : 1 ≤ r) : (rd A).duties g r = ∅ := by
  dsimp only [rd]; rw [if_neg (fun h' => by omega)]
theorem mem_duties {c d : Dev nD} {q : Sm} (h : d ∈ dutL c q) : d ∈ (rd A).duties (cell c q) 0 := by
  rw [duties_eq]; exact List.mem_toFinset.mpr h
theorem amount_eq (c : Dev nD) (q : Sm) (r : ℕ) (d : Dev nD) : (rd A).amount (cell c q) r d = amt q := by
  dsimp only [rd]; rw [dec_sem]
theorem payload_eq (c : Dev nD) (q : Sm) (r : ℕ) (d : Dev nD) : (rd A).payload (cell c q) r d = hold A c (paySet c q d) := by
  dsimp only [rd]; rw [dec_sem]
theorem expect_eq (c : Dev nD) (q : Sm) : (rd A).expect (cell c q) 0 = tot c q := by
  unfold Schedule.expect Schedule.amountOf
  rw [Finset.sum_congr rfl (fun d _ => amount_eq A c q 0 d), Finset.sum_const, duties_eq, List.toFinset_card_of_nodup (dutL_nodup c q)]
  rfl

/-! ## Lists of holdings -/

theorem hold_append (c : Dev nD) (l l' : List Res) : hold A c (l ++ l') = iprop(hold A c l ∗ hold A c l') := by
  induction l with
  | nil => exact (equiv_iff.mp BI.emp_sep).symm
  | cons r l ih =>
    show iprop(Φ A c r ∗ hold A c (l ++ l')) = iprop((Φ A c r ∗ hold A c l) ∗ hold A c l')
    rw [ih]
    exact (equiv_iff.mp ⟨BI.sep_assoc, BI.sep_assoc'⟩).symm

theorem hold_erase (c : Dev nD) {r : Res} {l : List Res} (h : r ∈ l) : hold A c l ⊢ iprop(Φ A c r ∗ hold A c (l.erase r)) := by
  induction l with
  | nil => exact absurd h List.not_mem_nil
  | cons a l ih =>
    by_cases e : a = r
    · subst e; rw [List.erase_cons_head]; exact .rfl
    · rw [List.erase_cons_tail (by simpa using e)]
      have h' : r ∈ l := (List.mem_cons.mp h).resolve_left (fun h => e h.symm)
      have := ih h'
      show iprop(Φ A c a ∗ hold A c l) ⊢ iprop(Φ A c r ∗ (Φ A c a ∗ hold A c (l.erase r)))
      iintro ⟨Ha, Hl⟩
      ihave H := this $$ Hl
      icases H with ⟨Hr, Hl⟩
      isplitl [Hr]; · iexact Hr
      isplitl [Ha] <;> iassumption

theorem hold_take (c : Dev nD) {P l r : List Res} (h : takeAll P l = some r) : hold A c l ⊢ iprop(hold A c P ∗ hold A c r) := by
  induction P generalizing l with
  | nil => cases h; exact BI.emp_sep.2
  | cons p P ih =>
    unfold takeAll at h
    split at h
    · next hp =>
      have h1 := hold_erase A c hp
      have h2 := ih h
      show _ ⊢ iprop((Φ A c p ∗ hold A c P) ∗ hold A c r)
      iintro H
      ihave H := h1 $$ H
      icases H with ⟨Hp, H⟩
      ihave H := h2 $$ H
      icases H with ⟨HP, Hr⟩
      isplitl [Hp HP]
      · isplitl [Hp] <;> iassumption
      · iexact Hr
    · cases h

/-- What a whole round hands over. -/
theorem rest_eq (c : Dev nD) (q : Sm) :
    bigSep ((rd A).duties (cell c q) 0 \ ∅) (fun d => (rd A).payload (cell c q) 0 d) ⊢ hold A c ((dutL c q).flatMap (paySet c q)) := by
  rw [Finset.sdiff_empty, duties_eq, bigSep_congr fun d _ => payload_eq A c q 0 d]
  have h := dutL_nodup c q
  generalize dutL c q = l at h
  induction l with
  | nil => exact Entails.of_eq BI.bigSep_empty
  | cons d l ih =>
    rw [List.toFinset_cons, bigSep_insert (by simpa using (List.nodup_cons.mp h).1), List.flatMap_cons, hold_append]
    exact sep_mono_right (ih (List.nodup_cons.mp h).2)

end Cert.KernelIdeal.Talk

end
-- ==== Proof.KernelIdeal.Ctx.lean ====
/- What stays true throughout the exchange, what a device owes at a list of holdings, and the wait. -/
module

public import proofs.«01_k».proof.Proof.KernelIdeal.Sched

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (A : Dev nD → Inp F)

/-! ## Levels and debts -/

/-- The semaphores of the TensorCores carry one index each. -/
def L (g : GSem nD τ sig) : Finset Unit := if g.1.2 = .tc then {()} else ∅
/-- The level of a semaphore. -/
def lv (g : GSem nD τ sig) (_ : Unit) : ℕ := lvl g.1.1 (dec g.2)

theorem L_of_ne (g : GSem nD τ sig) (h : g.1.2 ≠ .tc) : L g = ∅ := if_neg h
theorem L_cell (c : Dev nD) (q : Sm) : L (cell c q) = {()} := if_pos rfl
theorem lv_cell (c : Dev nD) (q : Sm) : lv (cell c q) () = lvl c q := by unfold lv; rw [dec_sem]

/-- What one holding owes. -/
def owed1 (c : Dev nD) (r : Res) : CellTallies nD τ sig Unit :=
  match owesTo c r with
  | none => 0
  | some (d, q) => tallyAt (cell d q) () (amt q)

theorem owed1_own (c : Dev nD) (q : Sm) : owed1 c (.tok c q) = 0 := by simp [owed1, owesTo]
theorem owed1_tok {c d : Dev nD} (h : d ≠ c) (q : Sm) : owed1 c (.tok d q) = tallyAt (cell d q) () (amt q) := by simp [owed1, owesTo, h]

/-- What a list of holdings owes. -/
def owed (c : Dev nD) : List Res → CellTallies nD τ sig Unit
  | [] => 0
  | r :: l => owed1 c r + owed c l

theorem owed_append (c : Dev nD) (l l' : List Res) : owed c (l ++ l') = owed c l + owed c l' := by
  induction l with
  | nil => exact (zero_add _).symm
  | cons r l ih => show owed1 c r + owed c (l ++ l') = owed1 c r + owed c l + owed c l'; rw [ih, add_assoc]

theorem owed_erase (c : Dev nD) {r : Res} {l : List Res} (h : r ∈ l) : owed c l = owed1 c r + owed c (l.erase r) := by
  induction l with
  | nil => exact absurd h List.not_mem_nil
  | cons a l ih =>
    by_cases e : a = r
    · subst e; rw [List.erase_cons_head]; rfl
    · rw [List.erase_cons_tail (by simpa using e)]
      show owed1 c a + owed c l = owed1 c r + (owed1 c a + owed c (l.erase r))
      rw [ih ((List.mem_cons.mp h).resolve_left (fun h => e h.symm)), add_left_comm]

theorem owed_take (c : Dev nD) {P l r : List Res} (h : takeAll P l = some r) : owed c l = owed c (P ++ r) := by
  induction P generalizing l with
  | nil => cases h; rfl
  | cons p P ih =>
    unfold takeAll at h
    split at h
    · next hp => rw [owed_erase c hp, ih h]; rfl
    · cases h

/-- Everything owed lies above the level. -/
def Above (n : Nat) (O : CellTallies nD τ sig Unit) : Prop := ∀ (g : GSem nD τ sig) (u : Unit), 0 < O g u → u ∈ L g ∧ n < lv g u

theorem above_owed {c : Dev nD} {n : Nat} {l : List Res} (h : above c n l = true) : Above n (owed c l) := by
  induction l with
  | nil => intro g u hg; exact absurd hg (Nat.lt_irrefl 0)
  | cons r l ih =>
    unfold above at h
    rw [List.all_cons, Bool.and_eq_true] at h
    intro g u hg
    have hg : 0 < owed1 c r g u + owed c l g u := hg
    by_cases h0 : 0 < owed c l g u
    · exact ih h.2 g u h0
    have h1 : 0 < owed1 c r g u := by omega
    unfold owed1 at h1
    have hr := h.1
    cases hd : owesTo c r with
    | none => rw [hd] at h1; exact absurd h1 (Nat.lt_irrefl 0)
    | some p =>
      obtain ⟨d, q⟩ := p
      rw [hd] at h1 hr
      dsimp only at h1 hr
      rw [tallyAt_apply] at h1
      by_cases e : g = cell d q ∧ u = ()
      · rw [e.1, e.2, L_cell, lv_cell]
        exact ⟨Finset.mem_singleton_self _, by simpa using hr⟩
      · rw [if_neg e] at h1; exact absurd h1 (Nat.lt_irrefl 0)

/-- A wait below everything owed is allowed. -/
theorem mayWait {c : Dev nD} {q : Sm} {O : CellTallies nD τ sig Unit} (h : Above (lvl c q) O) :
    (levAts L lv : sProp 𝕄) ⊢ MayWait (c : Thread nD τ) q.sem () O :=
  MayOwe.of_cut (L := L) (lev := lv) (lvl c q)
    (fun p hp => by rw [Finset.mem_singleton.mp hp]; exact (L_cell c q).symm ▸ Finset.mem_singleton_self _)
    (fun g u hg => (h g u hg).1)
    (fun p hp => by rw [Finset.mem_singleton.mp hp]; exact le_of_eq (lv_cell c q))
    (fun g u hg => (h g u hg).2)

/-! ## The standing facts -/

/-- All twenty semaphores of a device. -/
def allSm : Fin 20 → Sm := Fin.cons .bar smTab

theorem allSm_surj (q : Sm) : ∃ i, allSm i = q := by
  cases q with
  | bar => exact ⟨0, rfl⟩
  | send s => revert s; decide
  | recv k b => revert k b; decide
  | loc i => revert i; decide
  | out b => revert b; decide

/-- Every semaphore's invariant, and that its only round is reached on every barrier and on this device's own semaphores. -/
def facts (K : GSem nD τ sig → ℕ) (c : Dev nD) : sProp 𝕄 :=
  iprop(bigSep Finset.univ (fun p : Dev nD × Fin 20 => cellInv ER (rd A) (K (cell p.1 (allSm p.2))) (cell p.1 (allSm p.2)))
    ∗ bigSep Finset.univ (fun d : Dev nD => reached ER (cell d .bar) 0)
    ∗ bigSep Finset.univ (fun i : Fin 20 => reached ER (cell c (allSm i)) 0)
    ∗ levAts L lv)

instance facts_persistent (K : GSem nD τ sig → ℕ) (c : Dev nD) : BI.Persistent (facts A K c) := by unfold facts; infer_instance

theorem facts_inv (K : GSem nD τ sig → ℕ) (c d : Dev nD) (q : Sm) : facts A K c ⊢ cellInv ER (rd A) (K (cell d q)) (cell d q) := by
  obtain ⟨i, rfl⟩ := allSm_surj q
  unfold facts
  have h : (bigSep Finset.univ (fun p : Dev nD × Fin 20 => cellInv ER (rd A) (K (cell p.1 (allSm p.2))) (cell p.1 (allSm p.2))) : sProp 𝕄)
      ⊢ cellInv ER (rd A) (K (cell d (allSm i))) (cell d (allSm i)) := bigSep_elim (Finset.mem_univ (d, i))
  iintro ⟨H, -⟩
  iapply h; iexact H

theorem facts_bar (K : GSem nD τ sig → ℕ) (c d : Dev nD) : facts A K c ⊢ reached ER (cell d .bar) 0 := by
  unfold facts
  have h : (bigSep Finset.univ (fun d : Dev nD => reached ER (cell d .bar) 0) : sProp 𝕄) ⊢ reached ER (cell d .bar) 0 := bigSep_elim (Finset.mem_univ d)
  iintro ⟨-, H, -⟩
  iapply h; iexact H

theorem facts_own (K : GSem nD τ sig → ℕ) (c : Dev nD) (q : Sm) : facts A K c ⊢ reached ER (cell c q) 0 := by
  obtain ⟨i, rfl⟩ := allSm_surj q
  unfold facts
  have h : (bigSep Finset.univ (fun i : Fin 20 => reached ER (cell c (allSm i)) 0) : sProp 𝕄) ⊢ reached ER (cell c (allSm i)) 0 := bigSep_elim (Finset.mem_univ i)
  iintro ⟨-, -, H, -⟩
  iapply h; iexact H

theorem facts_lev (K : GSem nD τ sig → ℕ) (c : Dev nD) : facts A K c ⊢ levAts L lv := by
  unfold facts
  iintro ⟨-, -, -, H⟩
  iexact H

/-! ## Waiting -/

/-- A device's owed tallies, with whatever waits it has recorded. -/
abbrev owing (c : Dev nD) (O : CellTallies nD τ sig Unit) : sProp 𝕄 := iprop(∃ W, owes (c : Thread nD τ) O W)

/-- The weakest precondition of a program on device `c`. -/
abbrev WP (c : Dev nD) (p : PrT F) (Q : PUnit → sProp 𝕄) : sProp 𝕄 :=
  wp frame (wpE (defs₀ (F := F)) 𝒱₀ (c : Thread nD τ) none) Set.univ p Q

/-- Waiting out a semaphore's round: the position and the credit are spent, and what its duties handed over comes back. -/
theorem wait_step (K : GSem nD τ sig → ℕ) (c : Dev nD) (q : Sm) {w : TpuEff nD τ sig (Elt F) Λ₀ .tc PUnit} {n : ℕ}
    (hw : ∀ Kt : PUnit → sProp 𝕄, wpE (defs₀ (F := F)) 𝒱₀ (c : Thread nD τ) none Set.univ w Kt = waitSpec (c : Thread nD τ) Set.univ q.sem n Kt)
    (hn : n = tot c q) {O : CellTallies nD τ sig Unit} (hO : Above (lvl c q) O) (k : PUnit → PrT F) (Q : PUnit → sProp 𝕄) :
    iprop(facts A K c ∗ hold A c (wPre q) ∗ owing c O)
      ⊢ iprop((hold A c (wPost c q) -∗ owing c O -∗ WP c (k ⟨⟩) Q) -∗ WP c (.op w k) Q) := by
  subst hn
  simp only [wPre, wPost, hold, Φ, Bool.false_eq_true, if_false, if_true]
  iintro ⟨#Hf, Hp, ⟨%W, HO⟩⟩ Hk
  icases Hp with ⟨Hat, Hcr, -⟩
  iapply (Rounds.wp_wait_rest_token 𝒱₀ ER (rd A) (c : Thread nD τ) none (κ := K (cell c q)) hw (Set.mem_univ _) () (O := O) (W := W)
      (R := 0) (m := 0) (T := ∅) ((Nat.zero_add _).trans (expect_eq A c q).symm)) $$ [Hcr HO Hat]
  · isplitr; · iapply (facts_inv A K c c q); iexact Hf
    isplitl [Hcr]; · iexact Hcr
    isplitl [HO]; · iexact HO
    isplitr; · iapply (mayWait hO); iapply (facts_lev A K c); iexact Hf
    iexact Hat
  iintro ⟨HO, Hat, -, Hpay⟩
  ihave Hp := (rest_eq A c q) $$ Hpay
  iapply Hk $$ [Hat Hp] [HO]
  · isplitl [Hat]; · iexact Hat
    iexact Hp
  · iexists _; iexact HO

end Cert.KernelIdeal.Talk

end
-- ==== Proof.KernelIdeal.Step.lean ====
/- One triple per instruction that moves data or signals: from `pre` to `post`. -/
module

public import proofs.«01_k».proof.Proof.KernelIdeal.Ctx

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok pointsTo_toks_split)
open Cert.KernelIdeal Cert.KernelIdeal.Gen

variable {F : FTy → Type} [FloatOps F]

local notation "𝕄" => MT nD τ sig Unit (Elt F) ℕ UU ℕ

variable (A : Dev nD → Inp F) (K : GSem nD τ sig → ℕ) (c : Dev nD)

/-- Instruction `i` takes `pre` to `post`, whatever else `r` the device holds. -/
def Step (i : Ins) : Prop :=
  ∀ (r : List Res) (k : PUnit → PrT F) (Q : PUnit → sProp 𝕄), above c (insLvl c i) (pre c i ++ r) = true →
    iprop(facts A K c ∗ hold A c (pre c i) ∗ owing c (owed c (pre c i ++ r)))
      ⊢ iprop((hold A c (post c i) -∗ owing c (owed c (post c i ++ r)) -∗ WP c (k ⟨⟩) Q) -∗ WP c (i.run >>= k) Q)

/-! ## Waits -/

theorem owed_pay (p : Dev nD) (q : Sm) (l : List (Dev nD)) : owed c (l.flatMap (paySet p q)) = 0 := by
  induction l with
  | nil => rfl
  | cons d l ih =>
    rw [List.flatMap_cons, owed_append, ih, add_zero]
    cases q <;> simp [paySet, full, owed, owed1, owesTo]

theorem owed_wPre (q : Sm) (r : List Res) : owed c (wPre q ++ r) = owed c r := by simp [wPre, owed, owed1, owesTo]
theorem owed_wPost (q : Sm) (r : List Res) : owed c (wPost c q ++ r) = owed c r := by
  rw [owed_append]; simp [wPost, owed, owed1, owesTo, owed_pay]

/-- An instruction that is one wait. -/
theorem step_wait {i : Ins} {q : Sm} {w : TpuEff nD τ sig (Elt F) Λ₀ .tc PUnit} {n : ℕ} (hrun : i.run = Prog.lift w)
    (hpre : pre c i = wPre q) (hpost : post c i = wPost c q) (hl : lvl c q ≤ insLvl c i)
    (hw : ∀ Kt : PUnit → sProp 𝕄, wpE (defs₀ (F := F)) 𝒱₀ (c : Thread nD τ) none Set.univ w Kt = waitSpec (c : Thread nD τ) Set.univ q.sem n Kt)
    (hn : n = tot c q) : Step A K c i := by
  intro r k Q ha
  have hO := above_owed ha
  rw [hpre] at hO ⊢
  rw [hpost, hrun, owed_wPost]
  rw [owed_wPre] at hO ⊢
  exact wait_step A K c q hw hn (fun g u h => ⟨(hO g u h).1, lt_of_le_of_lt hl (hO g u h).2⟩) k Q

theorem tot_one {q : Sm} (h : (dutL c q).length = 1) : amt q = tot c q := by unfold tot; rw [h, one_mul]

theorem step_waitL (i : Fin 5) (h : ok c (.waitL i) = true) : Step A K c (.waitL i) := by
  have hn : amt (.loc i) = tot c (.loc i) := tot_one c (by rw [of_decide_eq_true h]; rfl)
  match i with
  | 0 => exact step_wait A K c (q := .loc 0) rfl rfl rfl (Nat.zero_le _) (wpE_waitDma2_eq 𝒱₀ (c : Thread nD τ) none Set.univ) hn
  | 1 => exact step_wait A K c (q := .loc 1) rfl rfl rfl (Nat.zero_le _) (wpE_waitDma2_eq 𝒱₀ (c : Thread nD τ) none Set.univ) hn
  | 2 => exact step_wait A K c (q := .loc 2) rfl rfl rfl (Nat.zero_le _) (wpE_waitDma2_eq 𝒱₀ (c : Thread nD τ) none Set.univ) hn
  | 3 => exact step_wait A K c (q := .loc 3) rfl rfl rfl (Nat.zero_le _) (wpE_waitDma2_eq 𝒱₀ (c : Thread nD τ) none Set.univ) hn
  | 4 => exact step_wait A K c (q := .loc 4) rfl rfl rfl (Nat.zero_le _) (wpE_waitDma2_eq 𝒱₀ (c : Thread nD τ) none Set.univ) hn

theorem step_waitB (n : Nat) (h : ok c (.waitB n) = true) : Step A K c (.waitB n) :=
  step_wait A K c (q := .bar) rfl rfl rfl le_rfl (wpE_semWait_eq 𝒱₀ (c : Thread nD τ) none Set.univ)
    (by unfold tot; rw [of_decide_eq_true h]; exact (Nat.mul_one n).symm)

theorem step_recv (k b : Fin 2) (h : ok c (.recv k b) = true) : Step A K c (.recv k b) :=
  step_wait A K c (q := .recv k b) rfl rfl rfl le_rfl (wpE_waitDma2_eq 𝒱₀ (c : Thread nD τ) none Set.univ)
    (tot_one c (q := .recv k b) (of_decide_eq_true h))

theorem step_waitS (c' : Dev nD) (b : Fin 2) (j : Fin 3) (h : ok c (.waitS c' b j) = true) : Step A K c (.waitS c' b j) := by
  obtain ⟨rfl, h⟩ := of_decide_eq_true h
  exact step_wait A K c' (q := .send (slot c' b j)) rfl rfl rfl (Nat.zero_le _) (wpE_waitDma2_eq 𝒱₀ (c' : Thread nD τ) none Set.univ)
    (tot_one c' (q := .send (slot c' b j)) h)

theorem step_waitO (b : Fin 2) : Step A K c (.waitO b) :=
  step_wait A K c (q := .out b) rfl rfl rfl (Nat.zero_le _) (wpE_waitDma2_eq 𝒱₀ (c : Thread nD τ) none Set.univ)
    (tot_one c (q := .out b) rfl)

/-! ## Local copies -/

/-- A copy within a device, paying its own duty. -/
theorem copy_step {sp sp' : Space} {s : Shape} {e : EltTy} (src : Memref sig .tc sp s e) (dst : Memref sig .tc sp' s e) (q : Sm)
    {h1 : src.view.WordExact} {h2 : dst.view.WordExact} {h3 : DmaTarget.Typed (nD := nD) (τ := τ) (p := .tc) sp q.sem (.here dst)}
    (hd : c ∈ dutL c q) (hN : dst.view.amount q.sem = amt q) (hL : tot c q = amt q)
    (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ hold A c (paySet c q c))
    (k : PUnit → PrT F) (Q : PUnit → sProp 𝕄) :
    iprop(facts A K c ∗ (src.view.loc (c : Thread nD τ) ↦[src.view.set]{fullShare} fs)
        ∗ (dst.view.loc (c : Thread nD τ) ↦[dst.view.set]{fullShare} fd) ∗ dutyTok ER (cell c q) 0 c)
      ⊢ iprop((cred (tallyAt (cell c q) () (tot c q)) -∗ WP c (k ⟨⟩) Q)
          -∗ WP c (.op (.enqueueDma src (.here dst) q.sem h1 h2 h3) k) Q) := by
  rw [hL]
  iintro ⟨#Hf, Hs, Hd, Ht⟩ Hk
  iapply (Rounds.wp_copy_pointsTo 𝒱₀ ER (rd A) (c : Thread nD τ) none (q := fullShare) (fs := fs) (fd := fd) (r := 0) (d := c)
      (κ := K (cell c q)) (mem_duties A hd) () (amt q) hN (amount_eq A c q 0 c) (by rw [payload_eq]; exact hpay)) $$ [Hs Hd Ht]
  · isplitr; · iapply (facts_inv A K c c q); iexact Hf
    isplitl [Hs]; · iexact Hs
    isplitl [Hd]; · iexact Hd
    isplitl [Ht]; · iexact Ht
    iapply (facts_own A K c q); iexact Hf
  iexact Hk

/-- The whole of a buffer, seen through its view. -/
theorem whole_pt (b : Ref sig .tc) (f : b.ty.Contents (Elt F)) :
    ((c : Thread nD τ).loc b ↦[(View.whole b : View sig .tc _ _ _).set]{fullShare} f : sProp 𝕄) = pt c b f := by rw [View.set_whole]

/-- Starting the copy of an input, from the equations of its two buffers. -/
theorem startL_of (i : Fin 5) {sp sp' : Space} {s : Shape} {e : EltTy} (src : Memref sig .tc sp s e) (dst : Memref sig .tc sp' s e)
    {h1 : src.view.WordExact} {h2 : dst.view.WordExact} {h3 : DmaTarget.Typed (nD := nD) (τ := τ) (p := .tc) sp (Sm.loc i).sem (.here dst)}
    (hrun : (startL i : PrT F) = Prog.lift (.enqueueDma src (.here dst) (Sm.loc i).sem h1 h2 h3))
    (hN : dst.view.amount (Sm.loc i).sem = amt (.loc i))
    (fs : Buf (Elt F) (src.view.loc (c : Thread nD τ)))
    (hs : Φ A c (.hbm i) = (src.view.loc (c : Thread nD τ) ↦[src.view.set]{fullShare} fs))
    (hr : Φ A c (.raw i) ⊢ iprop(∃ fd, dst.view.loc (c : Thread nD τ) ↦[dst.view.set]{fullShare} fd))
    (hv : ∀ fd, (dst.view.loc (c : Thread nD τ) ↦[dst.view.set]{fullShare} (dst.view.write (Elt F) fd (src.view.read (Elt F) fs) Finset.univ)) = Φ A c (.vm i))
    (hd : dutL c (.loc i) = [c]) : Step A K c (.startL i) := by
  intro r k Q _
  have ho : owed c (pre c (.startL i) ++ r) = owed c (post c (.startL i) ++ r) := by
    show 0 + (0 + (owed1 c (.tok c (.loc i)) + owed c r)) = 0 + owed c r
    rw [owed1_own]; simp only [zero_add]
  rw [ho]
  show iprop(facts A K c ∗ (Φ A c (.hbm i) ∗ Φ A c (.raw i) ∗ dutyTok ER (cell c (.loc i)) 0 c ∗ emp) ∗ owing c _)
      ⊢ iprop((iprop(cred (tallyAt (cell c (.loc i)) () (tot c (.loc i))) ∗ emp) -∗ owing c _ -∗ WP c (k ⟨⟩) Q) -∗ WP c ((startL i : PrT F) >>= k) Q)
  rw [hrun, hs, Prog.bind_lift]
  iintro ⟨#Hf, ⟨Hs, Hr, Ht, -⟩, HO⟩ Hk
  ihave Hr := hr $$ Hr
  icases Hr with ⟨%fd, Hd⟩
  iapply (copy_step A K c src dst (.loc i) (by rw [hd]; exact List.mem_singleton_self c) hN (by unfold tot; rw [hd]; exact one_mul _) fs fd
    (by
      show _ ⊢ iprop(Φ A c (.hbm i) ∗ Φ A c (.vm i) ∗ emp)
      rw [hs, hv]
      iintro ⟨Hd, Hs⟩
      isplitl [Hs]; · iexact Hs
      isplitl [Hd]; · iexact Hd
      iempintro) k Q) $$ [Hs Hd Ht]
  · isplitr; · iexact Hf
    isplitl [Hs]; · iexact Hs
    isplitl [Hd]; · iexact Hd
    iexact Ht
  iintro Hc
  iapply Hk $$ [Hc] [HO]
  · isplitl [Hc]; · iexact Hc
    iempintro
  · iexact HO

/-- Any contents of a whole buffer, seen through its view. -/
theorem raw_pt (b : Ref sig .tc) : (iprop(∃ f, pt c b f) : sProp 𝕄)
    ⊢ iprop(∃ f, (c : Thread nD τ).loc b ↦[(View.whole b : View sig .tc _ _ _).set]{fullShare} f) := by rw [View.set_whole]

/-- A copy between whole buffers leaves the source's contents. -/
theorem copied_pt (b : Ref sig .tc) (fd fs : b.ty.Contents (Elt F)) :
    ((c : Thread nD τ).loc b ↦[(View.whole b : View sig .tc _ _ _).set]{fullShare} ((View.whole b).write (Elt F) fd fs Finset.univ) : sProp 𝕄) = pt c b fs := by
  rw [View.set_whole, View.write_whole_univ]

theorem step_startL (i : Fin 5) (h : ok c (.startL i) = true) : Step A K c (.startL i) := by
  have hd : dutL c (.loc i) = [c] := of_decide_eq_true h
  match i with
  | 0 => exact startL_of A K c 0 (Memref.whole main_arg0) xM rfl rfl (A c).x (whole_pt c main_arg0 _).symm (raw_pt c cc0_scratch3) (fun _ => copied_pt c cc0_scratch3 _ _) hd
  | 1 => exact startL_of A K c 1 (Memref.whole main_arg1) wqM rfl rfl (A c).wq (whole_pt c main_arg1 _).symm (raw_pt c cc0_scratch4) (fun _ => copied_pt c cc0_scratch4 _ _) hd
  | 2 => exact startL_of A K c 2 (Memref.whole main_v1) kM rfl rfl (A c).k (whole_pt c main_v1 _).symm (raw_pt c cc0_scratch5) (fun _ => copied_pt c cc0_scratch5 _ _) hd
  | 3 => exact startL_of A K c 3 (Memref.whole main_v2) vM rfl rfl (A c).v (whole_pt c main_v2 _).symm (raw_pt c cc0_scratch6) (fun _ => copied_pt c cc0_scratch6 _ _) hd
  | 4 => exact startL_of A K c 4 (Memref.whole main_arg4) woM rfl rfl (A c).wo (whole_pt c main_arg4 _).symm (raw_pt c cc0_scratch7) (fun _ => copied_pt c cc0_scratch7 _ _) hd

/-! ## Writing through a view what another view of the same elements reads -/

/-- Rewriting a view with what it reads of `f` gives `f` on the view. -/
theorem write_read {sp : Space} {s : Shape} {e : EltTy} (v : View sig .tc sp s e) (f g : v.ty.Contents (Elt F)) :
    ∀ i ∈ v.set, v.write (Elt F) g (v.read (Elt F) f) Finset.univ i = f i := by
  intro i hi
  obtain ⟨j, -, rfl⟩ := Finset.mem_map.mp hi
  rw [View.write_emb_of_mem _ _ (Finset.mem_univ j), View.read_apply]
  simp

/-- A window at the filled contents, dealt into what stays and what is lent. -/
theorem full_intro (t : Dev nD) (k b : Fin 2) {f : Vec F S2x2x128x260 .bf16} (h : ∀ i ∈ wS k b, f i = PB A i) :
    pbPt t (wS k b) fullShare f ⊢ hold A t (full k b) := by
  rw [show (pbPt t (wS k b) fullShare f : sProp 𝕄) = pbPt t (wS k b) fullShare (PB A) from pointsTo_congr h]
  have h3 : (bigSep Finset.univ (fun j : Fin 3 => (pbPt t (wS k b) (shareTok fullShare 3 j) (PB A) : sProp 𝕄)))
      = iprop(pbPt t (wS k b) (shareTok fullShare 3 0) (PB A) ∗ pbPt t (wS k b) (shareTok fullShare 3 1) (PB A)
        ∗ pbPt t (wS k b) (shareTok fullShare 3 2) (PB A)) :=
    bigSep_univ_eq_bigSepL [0, 1, 2] (by decide) (by decide) _
  have hs : (pbPt t (wS k b) fullShare (PB A) : sProp 𝕄)
      ⊢ iprop(pbPt t (wS k b) (shareDrop fullShare 3) (PB A) ∗ bigSep Finset.univ (fun j : Fin 3 => pbPt t (wS k b) (shareTok fullShare 3 j) (PB A))) :=
    pointsTo_toks_split fullShare 3
  rw [h3] at hs
  simp only [full, hold, Φ]
  iintro H
  ihave H := hs $$ H
  icases H with ⟨Hk, H0, H1, H2⟩
  isplitl [Hk]; · iexact Hk
  isplitl [H0]; · iexact H0
  isplitl [H1]; · iexact H1
  isplitl [H2]; · iexact H2
  iempintro

/-! ## Signals and sends -/

theorem step_sig (p : Dev nD) (h : ok c (.sig p) = true) : Step A K c (.sig p) := by
  obtain ⟨hm, hne⟩ := of_decide_eq_true h
  intro r k Q _
  have ho : owed c (pre c (.sig p) ++ r) = owed c (post c (.sig p) ++ r) + tallyAt (cell p .bar) () 1 := by
    show owed1 c (.tok p .bar) + (0 + (0 + owed c r)) = owed c r + _
    rw [owed1_tok hne, zero_add, zero_add, add_comm]; rfl
  rw [ho]
  show iprop(facts A K c ∗ (dutyTok ER (cell p .bar) 0 c ∗ (∃ f, pbPt c (wS (chan p) 0) fullShare f) ∗ (∃ f, pbPt c (wS (chan p) 1) fullShare f) ∗ emp) ∗ owing c _)
      ⊢ iprop((emp -∗ owing c _ -∗ WP c (k ⟨⟩) Q) -∗ WP c (.op (.semSignal (p, .tc) barS 1) k) Q)
  iintro ⟨#Hf, ⟨Ht, H0, H1, -⟩, ⟨%W, HO⟩⟩ Hk
  iapply (Rounds.wp_signal 𝒱₀ ER (rd A) (c : Thread nD τ) none (dst := (p : Thread nD τ)) (sem := barS) (r := 0) (d := c)
      (κ := K (cell p .bar)) (mem_duties A hm) (amount_eq A p .bar 0 c) () (owed c (post c (.sig p) ++ r)) rfl) $$ [HO Ht H0 H1]
  · isplitr; · iapply (facts_inv A K c p .bar); iexact Hf
    isplitl [HO]; · iexact HO
    isplitl [Ht]; · iexact Ht
    isplitl [H0 H1]
    · rw [payload_eq A p .bar 0 c]
      simp only [paySet, hold, Φ]
      isplitl [H0]
      · isplitl [H0]; · iexact H0
        iapply (facts_own A K c (.recv (chan p) 0)); iexact Hf
      isplitl [H1]
      · isplitl [H1]; · iexact H1
        iapply (facts_own A K c (.recv (chan p) 1)); iexact Hf
      iempintro
    · iapply (facts_bar A K c p); iexact Hf
  iintro HO
  iapply Hk $$ [] [HO]
  · iempintro
  · iexists W; iexact HO

theorem step_send (c' : Dev nD) (b : Fin 2) (j : Fin 3) (h : ok c (.send c' b j) = true) : Step A K c (.send c' b j) := by
  obtain ⟨rfl, hne, hdr, hds, hB, hJ⟩ := of_decide_eq_true h
  intro r k Q _
  have ho : owed c' (pre c' (.send c' b j) ++ r)
      = owed c' (post c' (.send c' b j) ++ r) + tallyAt (cell (kid c' j) (.recv (chan c') b)) () (amt (.recv (chan c') b)) := by
    show 0 + (0 + (owed1 c' (.tok (kid c' j) (.recv (chan c') b)) + (owed1 c' (.tok c' (.send (slot c' b j))) + owed c' r))) = (0 + owed c' r) + _
    rw [owed1_tok hne, owed1_own]; simp only [zero_add]; rw [add_comm]
  rw [ho]
  have hL : tot c' (.send (slot c' b j)) = (pbW 0 0).view.dmaCredit := (tot_one c' (q := .send (slot c' b j)) (by rw [hds]; rfl)).symm
  show iprop(facts A K c' ∗ (pbPt c' (wS (chan c') b) (shareTok fullShare 3 j) (PB A)
        ∗ ((∃ f, pbPt (kid c' j) (wS (chan c') b) fullShare f) ∗ reached ER (cell (kid c' j) (.recv (chan c') b)) 0)
        ∗ dutyTok ER (cell (kid c' j) (.recv (chan c') b)) 0 c' ∗ dutyTok ER (cell c' (.send (slot c' b j))) 0 c' ∗ emp) ∗ owing c' _)
      ⊢ iprop((iprop(cred (tallyAt (cell c' (.send (slot c' b j))) () (tot c' (.send (slot c' b j)))) ∗ emp) -∗ owing c' _ -∗ WP c' (k ⟨⟩) Q)
          -∗ WP c' (.op (.enqueueDma (pbW (chan c') b) (.remote (Dev.tc (kid c' j)) (pbW (chan c') b) (.dma (sendS (slot c' b j)))) (.dma (recvS (chan c') b))
      (pbW_exact _ b) (pbW_exact _ b) ⟨⟨rfl, Or.inl rfl⟩, trivial⟩) k) Q)
  rw [hL]
  iintro ⟨#Hf, ⟨Hs, ⟨⟨%fn, Hd⟩, #Hr⟩, HtN, HtS, -⟩, ⟨%W, HO⟩⟩ Hk
  iapply (Rounds.wp_send_pointsTo 𝒱₀ ER (rd A) (c' : Thread nD τ) none (c' := (kid c' j : Thread nD τ)) (src := pbW (chan c') b) (dst := pbW (chan c') b)
      (sS := (Sm.send (slot c' b j)).sem) (sem := (Sm.recv (chan c') b).sem) (q := shareTok fullShare 3 j) (fs := PB A)
      (κ₁ := K (cell c' (.send (slot c' b j)))) (κ₂ := K (cell (kid c' j) (.recv (chan c') b)))
      (r₁ := 0) (r₂ := 0) (d₁ := c') (d₂ := c') (fd := fn)
      (mem_duties A (by rw [hds]; exact List.mem_singleton_self _)) (mem_duties A (by rw [hdr]; exact List.mem_singleton_self _))
      () () (pbW 0 0).view.dmaCredit rfl (amount_eq A c' (.send (slot c' b j)) 0 c') (amount_eq A (kid c' j) (.recv (chan c') b) 0 c')
      (owed c' (post c' (.send c' b j) ++ r)) rfl (W := W)
      (by
        rw [payload_eq A c' (.send (slot c' b j)) 0 c']
        simp only [paySet, hold, Φ]
        rw [hB, hJ]
        exact (Laws.sep_emp).2)
      (by
        rw [payload_eq A (kid c' j) (.recv (chan c') b) 0 c']
        exact full_intro A (kid c' j) (chan c') b (write_read (F := F) (pbW (chan c') b).view (PB A) fn))) $$ [Hs Hd HO HtS HtN]
  · isplitr; · iapply (facts_inv A K c' c' (.send (slot c' b j))); iexact Hf
    isplitr; · iapply (facts_inv A K c' (kid c' j) (.recv (chan c') b)); iexact Hf
    isplitl [Hs]; · iexact Hs
    isplitl [Hd]; · iexact Hd
    isplitl [HO]; · iexact HO
    isplitl [HtS]; · iexact HtS
    isplitr; · iapply (facts_own A K c' (.send (slot c' b j))); iexact Hf
    isplitl [HtN]; · iexact HtN
    iexact Hr
  iintro ⟨Hc, HO⟩
  iapply Hk $$ [Hc] [HO]
  · isplitl [Hc]; · iexact Hc
    iempintro
  · iexists W; iexact HO

/-! ## The output row's copy -/

theorem out_congr (b : Fin 2) (fd : Vec F S2x128x512 .bf16) :
    ∀ i ∈ rS b, (outW b).view.write (Elt F) fd ((ovW b).view.read (Elt F) (OUT A c)) Finset.univ i = OUT A c i :=
  write_read (F := F) (outW b).view (OUT A c) fd

theorem step_outL (b : Fin 2) : Step A K c (.outL b) := by
  intro r k Q _
  have ho : owed c (pre c (.outL b) ++ r) = owed c (post c (.outL b) ++ r) := by
    show 0 + (0 + (owed1 c (.tok c (.out b)) + owed c r)) = 0 + owed c r
    rw [owed1_own]; simp only [zero_add]
  rw [ho]
  show iprop(facts A K c ∗ (ovPt c (vS b) (OUT A c) ∗ (∃ f, outPt c (rS b) f) ∗ dutyTok ER (cell c (.out b)) 0 c ∗ emp) ∗ owing c _)
      ⊢ iprop((iprop(cred (tallyAt (cell c (.out b)) () (tot c (.out b))) ∗ emp) -∗ owing c _ -∗ WP c (k ⟨⟩) Q)
          -∗ WP c (.op (.enqueueDma (ovW b) (.here (outW b)) (Sm.out b).sem (ovW_exact b) (outW_exact b) ⟨Or.inl rfl, trivial⟩) k) Q)
  iintro ⟨#Hf, ⟨Hs, ⟨%fd, Hd⟩, Ht, -⟩, HO⟩ Hk
  iapply (copy_step A K c (ovW b) (outW b) (.out b) (List.mem_singleton_self c) rfl (one_mul _) (OUT A c) fd
    (by
      show _ ⊢ iprop((outPt c (rS b) (OUT A c) ∗ ovPt c (vS b) (OUT A c)) ∗ emp)
      rw [← show (_ : sProp 𝕄) = outPt c (rS b) (OUT A c) from pointsTo_congr (out_congr A c b fd)]
      exact (Laws.sep_emp).2) k Q) $$ [Hs Hd Ht]
  · isplitr; · iexact Hf
    isplitl [Hs]; · iexact Hs
    isplitl [Hd]; · iexact Hd
    iexact Ht
  iintro Hc
  iapply Hk $$ [Hc] [HO]
  · isplitl [Hc]; · iexact Hc
    iempintro
  · iexact HO

end Cert.KernelIdeal.Talk

end
-- ==== Proof.KernelIdeal.Part.lean ====
/- The two computing instructions: a source's partial of one batch row, and the combination of the two windows. -/
module

public import proofs.«01_k».proof.Proof.KernelIdeal.Step

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]

local notation "𝕄" => MT nD τ sig Unit (Elt F) ℕ UU ℕ

variable (A : Dev nD → Inp F) (K : GSem nD τ sig → ℕ) (c : Dev nD)

/-! ## Stores into a window -/

/-- A store through a rectangle of the exchange buffer, read at an element of the rectangle. -/
theorem store_mem (r : Rect S2x2x128x260) (f : Vec F S2x2x128x260 .bf16) (w : r.shape.Idx → Elt F .bf16) (j : r.shape.Idx) :
    (pbM.access r).write (Elt F) f w Finset.univ (r.emb j) = w j :=
  View.write_emb_of_mem (v := pbM.access r) f w (Finset.mem_univ j)

/-- … and elsewhere. -/
theorem store_not_mem (r : Rect S2x2x128x260) (f : Vec F S2x2x128x260 .bf16) (w : r.shape.Idx → Elt F .bf16) {i : S2x2x128x260.Idx}
    (h : i ∉ r.set) : (pbM.access r).write (Elt F) f w Finset.univ i = f i :=
  View.write_of_not_mem (v := pbM.access r) f w Finset.univ (by
    rw [View.setOn_univ]
    exact fun h' => h (by rwa [show (pbM.access r).set = r.set from View.set_slice_whole cc0_scratch0 r] at h'))

/-- An element of a rectangle is the place of an index of it. -/
theorem rect_emb {s : Shape} {r : Rect s} {i : s.Idx} (h : i ∈ r.set) : ∃ j, r.emb j = i := by
  rw [← r.map_emb_univ] at h
  obtain ⟨j, -, e⟩ := Finset.mem_map.mp h
  exact ⟨j, e⟩

theorem access_ctx (k b : Fin 2) (h : Fin 4) : (pbM.access (ctxR k b h)).set ⊆ wS k b := by
  rw [show (pbM.access (ctxR k b h)).set = (ctxR k b h).set from View.set_slice_whole cc0_scratch0 _]
  intro i hi
  obtain ⟨j, rfl⟩ := rect_emb hi
  exact (mem_wS k b _).mpr (ctx_emb k b h j).1

theorem access_den (k b : Fin 2) (h : Fin 4) : (pbM.access (denR k b h)).set ⊆ wS k b := by
  rw [show (pbM.access (denR k b h)).set = (denR k b h).set from View.set_slice_whole cc0_scratch0 _]
  intro i hi
  obtain ⟨j, rfl⟩ := rect_emb hi
  exact (mem_wS k b _).mpr (den_emb k b h j).1

/-- The first `n` heads of window `(k, b)` are filled. -/
def Agree (k b : Fin 2) (n : Nat) (f : Vec F S2x2x128x260 .bf16) : Prop :=
  ∀ i ∈ wS k b, ((i 3).val < 64 * n ∨ (256 ≤ (i 3).val ∧ (i 3).val < 256 + n)) → f i = PB A i

theorem agree_zero (k b : Fin 2) (f : Vec F S2x2x128x260 .bf16) : Agree A k b 0 f := fun i _ h => by omega

theorem agree_all {k b : Fin 2} {f : Vec F S2x2x128x260 .bf16} (h : Agree A k b 4 f) : ∀ i ∈ wS k b, f i = PB A i := fun i hi =>
  h i hi (by have : (i 3).val < 260 := (i 3).isLt; omega)

theorem agree_next (k b : Fin 2) (h : Fin 4) {f : Vec F S2x2x128x260 .bf16} (hf : Agree A k b h.val f) :
    Agree A k b (h.val + 1) ((pbM.access (denR k b h)).write (Elt F)
      ((pbM.access (ctxR k b h)).write (Elt F) f (ctxV k h (qS A k b) (vtS A k b) onesV (kS A k b h)) Finset.univ)
      (denV k h (qS A k b) (vtS A k b) onesV (kS A k b h)) Finset.univ) := by
  intro i hi hn
  by_cases hd : i ∈ (denR k b h).set
  · obtain ⟨j, rfl⟩ := rect_emb hd
    exact (store_mem _ _ _ j).trans (PB_den A k b h j).symm
  rw [store_not_mem _ _ _ hd]
  by_cases hc : i ∈ (ctxR k b h).set
  · obtain ⟨j, rfl⟩ := rect_emb hc
    exact (store_mem _ _ _ j).trans (PB_ctx A k b h j).symm
  rw [store_not_mem _ _ _ hc]
  refine hf i hi ?_
  obtain ⟨e0, e1⟩ := (mem_wS k b i).mp hi
  have h2 : (i 2).val < 128 := (i 2).isLt
  rw [Rect.mem_set_unit] at hd hc
  by_contra hno
  have hnc : ¬ (64 * h.val ≤ (i 3).val ∧ (i 3).val < 64 * h.val + 64) := fun hx => hc (fun a => by
    match a with
    | 0 => exact ⟨le_of_eq (by rw [e0]; rfl), by rw [e0]; exact Nat.lt_succ_self _⟩
    | 1 => exact ⟨le_of_eq (by rw [e1]; rfl), by rw [e1]; exact Nat.lt_succ_self _⟩
    | 2 => exact ⟨Nat.zero_le _, by show (i 2).val < 0 + 128; omega⟩
    | 3 => exact hx)
  have hnd : ¬ (256 + h.val ≤ (i 3).val ∧ (i 3).val < 256 + h.val + 1) := fun hx => hd (fun a => by
    match a with
    | 0 => exact ⟨le_of_eq (by rw [e0]; rfl), by rw [e0]; exact Nat.lt_succ_self _⟩
    | 1 => exact ⟨le_of_eq (by rw [e1]; rfl), by rw [e1]; exact Nat.lt_succ_self _⟩
    | 2 => exact ⟨Nat.zero_le _, by show (i 2).val < 0 + 128; omega⟩
    | 3 => exact hx)
  omega

/-! ## A head -/

theorem head_step (k b : Fin 2) (h : Fin 4) {f : Vec F S2x2x128x260 .bf16} (hf : Agree A k b h.val f) {q : FVec F S128x256 .bf16}
    (hq : q = qS A k b) {vt : FVec F S4x128x64 .bf16} (hvt : vt = vtS A k b) (cont : PUnit → PrT F) (Q : PUnit → sProp 𝕄) :
    iprop(pt (srcDev k) cc0_scratch5 (A (srcDev k)).k ∗ pbPt (srcDev k) (wS k b) fullShare f)
      ⊢ iprop((∀ g, ⌜Agree A k b (h.val + 1) g⌝ -∗ pt (srcDev k) cc0_scratch5 (A (srcDev k)).k -∗ pbPt (srcDev k) (wS k b) fullShare g -∗ WP (srcDev k) (cont ⟨⟩) Q)
        -∗ WP (srcDev k) (headP k b h q vt onesV >>= cont) Q) := by
  subst hq hvt
  simp only [headP, Prog.bind_lift, Prog.bind_op]
  iintro ⟨Hk, Hw⟩ HQ
  iapply (wp_load_rect 𝒱₀ (srcDev k : Thread nD τ) none Set.univ (m := kM) (r := kR b h) (S := Finset.univ) (q := fullShare) (f := (A (srcDev k)).k) (Finset.subset_univ _)) $$ Hk
  iintro Hk
  iapply (wp_load_rect 𝒱₀ (srcDev k : Thread nD τ) none Set.univ (m := pbM) (r := ctxR k b h) (S := wS k b) (q := fullShare) (f := f) (access_ctx k b h)) $$ Hw
  iintro Hw
  iapply (wp_store 𝒱₀ (srcDev k : Thread nD τ) none Set.univ (m := pbM) (r := ctxR k b h) (S := wS k b) (f := f) (by rw [View.setOn_univ]; exact access_ctx k b h)) $$ Hw
  iintro Hw
  iapply (wp_load_rect 𝒱₀ (srcDev k : Thread nD τ) none Set.univ (m := pbM) (r := denR k b h) (S := wS k b) (q := fullShare) (access_den k b h)) $$ Hw
  iintro Hw
  iapply (wp_store 𝒱₀ (srcDev k : Thread nD τ) none Set.univ (m := pbM) (r := denR k b h) (S := wS k b) (by rw [View.setOn_univ]; exact access_den k b h)) $$ Hw
  iintro Hw
  iapply HQ $$ [] [Hk] [Hw]
  · ipureintro; exact agree_next A k b h hf
  · iexact Hk
  · iexact Hw

/-! ## A partial -/

/-- The part of a partial behind its waits. -/
def headsP (s b : Fin 2) (q : FVec F S128x256 .bf16) : PrT F := do
  let v : Vec F S1x4x64x128 .f32 ← Prog.lift (.load vM (vR b).toLoadRect (View.loadsAt_vmem h_S1x4x64x128))
  headP s b 0 q (vtV v) onesV
  headP s b 1 q (vtV v) onesV
  headP s b 2 q (vtV v) onesV
  headP s b 3 q (vtV v) onesV

theorem heads_step (k b : Fin 2) {q : FVec F S128x256 .bf16} (hq : q = qS A k b) (cont : PUnit → PrT F) (Q : PUnit → sProp 𝕄) :
    iprop(pt (srcDev k) cc0_scratch5 (A (srcDev k)).k ∗ pt (srcDev k) cc0_scratch6 (A (srcDev k)).v ∗ (∃ f, pbPt (srcDev k) (wS k b) fullShare f))
      ⊢ iprop((pt (srcDev k) cc0_scratch5 (A (srcDev k)).k -∗ pt (srcDev k) cc0_scratch6 (A (srcDev k)).v -∗ hold A (srcDev k) (full k b) -∗ WP (srcDev k) (cont ⟨⟩) Q)
        -∗ WP (srcDev k) (headsP k b q >>= cont) Q) := by
  have hassoc : (headsP k b q : PrT F) >>= cont
      = .op (.load vM (vR b).toLoadRect (View.loadsAt_vmem h_S1x4x64x128)) fun v =>
          headP k b 0 q (vtV v) onesV >>= fun _ => headP k b 1 q (vtV v) onesV >>= fun _ =>
            headP k b 2 q (vtV v) onesV >>= fun _ => headP k b 3 q (vtV v) onesV >>= cont := by
    simp only [headsP, Prog.bind_lift, Prog.bind_op, bind_assoc]
    rfl
  rw [hassoc]
  iintro ⟨Hk, Hv, ⟨%f, Hw⟩⟩ HQ
  iapply (wp_load_rect 𝒱₀ (srcDev k : Thread nD τ) none Set.univ (m := vM) (r := vR b) (S := Finset.univ) (q := fullShare) (f := (A (srcDev k)).v) (Finset.subset_univ _)) $$ Hv
  iintro Hv
  iapply (head_step A k b 0 (agree_zero A k b f) hq rfl) $$ [Hk Hw]
  · isplitl [Hk] <;> iassumption
  iintro %g0 %h0 Hk Hw
  iapply (head_step A k b 1 h0 hq rfl) $$ [Hk Hw]
  · isplitl [Hk] <;> iassumption
  iintro %g1 %h1 Hk Hw
  iapply (head_step A k b 2 h1 hq rfl) $$ [Hk Hw]
  · isplitl [Hk] <;> iassumption
  iintro %g2 %h2 Hk Hw
  iapply (head_step A k b 3 h2 hq rfl) $$ [Hk Hw]
  · isplitl [Hk] <;> iassumption
  iintro %g3 %h3 Hk Hw
  iapply HQ $$ Hk Hv [Hw]
  iapply (full_intro A (srcDev k) k b (agree_all A h3)); iexact Hw

theorem wPost_loc (i : Fin 5) (hd : dutL c (.loc i) = [c]) :
    hold A c (wPost c (.loc i)) = iprop(Φ A c (.pos (.loc i) true) ∗ Φ A c (.hbm i) ∗ Φ A c (.vm i) ∗ emp) := by
  unfold wPost; rw [hd]; rfl

theorem step_part (k b : Fin 2) (w : Bool) (h : ok c (.part k b w) = true) : Step A K c (.part k b w) := by
  obtain ⟨rfl, hd⟩ := of_decide_eq_true h
  intro r kt Q ha
  have hO := above_owed ha
  have e1 : owed (srcDev k) (pre (srcDev k) (.part k b w) ++ r) = owed (srcDev k) r := by
    cases w <;> simp [pre, wPre, owed, owed1, owesTo]
  have e2 : owed (srcDev k) (post (srcDev k) (.part k b w) ++ r) = owed (srcDev k) r := by
    cases w <;> simp [post, full, owed, owed1, owesTo]
  rw [e1] at hO ⊢
  rw [e2]
  cases w with
  | false =>
    have hrun : (Ins.part k b false).run >>= kt
        = (.op (.load wqM wqR.toLoadRect (View.loadsAt_vmem h_S512x256)) fun wq =>
            .op (.load xM (xR b).toLoadRect (View.loadsAt_vmem h_S1x128x512)) fun x => headsP k b (qV wq x) >>= kt : PrT F) := by
      simp only [Ins.run, partP, headsP, Prog.bind_lift, Prog.bind_op, Prog.bind_ret]
      rfl
    rw [hrun]
    show iprop(facts A K (srcDev k) ∗ (Φ A (srcDev k) (.wraw k b) ∗ Φ A (srcDev k) (.vm 0) ∗ Φ A (srcDev k) (.vm 1) ∗ Φ A (srcDev k) (.vm 2) ∗ Φ A (srcDev k) (.vm 3) ∗ emp) ∗ owing _ _)
      ⊢ iprop((hold A (srcDev k) (full k b ++ [.vm 0, .vm 1, .vm 2, .vm 3]) -∗ _) -∗ _)
    rw [hold_append]
    simp only [hold, Φ]
    iintro ⟨#Hf, ⟨Hw, Hx, Hq, Hk, Hv, -⟩, HO⟩ HQ
    iapply (wp_load_rect 𝒱₀ (srcDev k : Thread nD τ) none Set.univ (m := wqM) (r := wqR) (S := Finset.univ) (q := fullShare) (f := (A (srcDev k)).wq) (Finset.subset_univ _)) $$ Hq
    iintro Hq
    iapply (wp_load_rect 𝒱₀ (srcDev k : Thread nD τ) none Set.univ (m := xM) (r := xR b) (S := Finset.univ) (q := fullShare) (f := (A (srcDev k)).x) (Finset.subset_univ _)) $$ Hx
    iintro Hx
    iapply (heads_step A k b rfl kt Q) $$ [Hk Hv Hw]
    · isplitl [Hk]; · iexact Hk
      isplitl [Hv] <;> iassumption
    iintro Hk Hv Hw
    iapply HQ $$ [Hk Hv Hw Hx Hq] HO
    isplitl [Hw]; · iexact Hw
    isplitl [Hx]; · iexact Hx
    isplitl [Hq]; · iexact Hq
    isplitl [Hk]; · iexact Hk
    isplitl [Hv]; · iexact Hv
    iempintro
  | true =>
    obtain ⟨h2, h3⟩ := hd rfl
    have n2 : kM.view.dmaCredit = tot (srcDev k) (.loc 2) := tot_one (srcDev k) (q := .loc 2) (by rw [h2]; rfl)
    have n3 : vM.view.dmaCredit = tot (srcDev k) (.loc 3) := tot_one (srcDev k) (q := .loc 3) (by rw [h3]; rfl)
    have E2 := wPost_loc A (srcDev k) 2 h2
    have E3 := wPost_loc A (srcDev k) 3 h3
    simp only [Φ] at E2 E3
    have hrun : (Ins.part k b true).run >>= kt
        = (.op (.load wqM wqR.toLoadRect (View.loadsAt_vmem h_S512x256)) fun wq =>
            .op (.load xM (xR b).toLoadRect (View.loadsAt_vmem h_S1x128x512)) fun x =>
            .op (.waitDma2 (locS 2) (Memref.whole main_v1) kM (Memref.isWhole_whole _).wordExact (Memref.isWhole_whole _).wordExact) fun _ =>
            .op (.waitDma2 (locS 3) (Memref.whole main_v2) vM (Memref.isWhole_whole _).wordExact (Memref.isWhole_whole _).wordExact) fun _ =>
              headsP k b (qV wq x) >>= kt : PrT F) := by
      simp only [Ins.run, partP, headsP, waitL, Prog.bind_lift, Prog.bind_op, Prog.bind_ret]
      rfl
    rw [hrun]
    show iprop(facts A K (srcDev k) ∗ (Φ A (srcDev k) (.wraw k b) ∗ Φ A (srcDev k) (.vm 0) ∗ Φ A (srcDev k) (.vm 1) ∗ hold A (srcDev k) (wPre (.loc 2) ++ wPre (.loc 3))) ∗ owing _ _)
      ⊢ iprop((hold A (srcDev k) (full k b ++ [.vm 0, .vm 1, .vm 2, .vm 3, .pos (.loc 2) true, .hbm 2, .pos (.loc 3) true, .hbm 3]) -∗ _) -∗ _)
    rw [hold_append, hold_append]
    simp only [hold, Φ]
    iintro ⟨#Hf, ⟨Hw, Hx, Hq, H2, H3⟩, HO⟩ HQ
    iapply (wp_load_rect 𝒱₀ (srcDev k : Thread nD τ) none Set.univ (m := wqM) (r := wqR) (S := Finset.univ) (q := fullShare) (f := (A (srcDev k)).wq) (Finset.subset_univ _)) $$ Hq
    iintro Hq
    iapply (wp_load_rect 𝒱₀ (srcDev k : Thread nD τ) none Set.univ (m := xM) (r := xR b) (S := Finset.univ) (q := fullShare) (f := (A (srcDev k)).x) (Finset.subset_univ _)) $$ Hx
    iintro Hx
    iapply (wait_step A K (srcDev k) (.loc 2) (wpE_waitDma2_eq 𝒱₀ (srcDev k : Thread nD τ) none Set.univ) n2 hO) $$ [H2 HO]
    · isplitr; · iexact Hf
      isplitl [H2] <;> iassumption
    iintro H2 HO
    iapply (wait_step A K (srcDev k) (.loc 3) (wpE_waitDma2_eq 𝒱₀ (srcDev k : Thread nD τ) none Set.univ) n3 hO) $$ [H3 HO]
    · isplitr; · iexact Hf
      isplitl [H3] <;> iassumption
    iintro H3 HO
    ihave H2 := (Entails.of_eq E2) $$ H2
    ihave H3 := (Entails.of_eq E3) $$ H3
    icases H2 with ⟨Hp2, Hb2, Hk, -⟩
    icases H3 with ⟨Hp3, Hb3, Hv, -⟩
    iapply (heads_step A k b rfl kt Q) $$ [Hk Hv Hw]
    · isplitl [Hk]; · iexact Hk
      isplitl [Hv] <;> iassumption
    iintro Hk Hv Hw
    iapply HQ $$ [Hk Hv Hw Hx Hq Hp2 Hb2 Hp3 Hb3] HO
    isplitl [Hw]; · iexact Hw
    isplitl [Hx]; · iexact Hx
    isplitl [Hq]; · iexact Hq
    isplitl [Hk]; · iexact Hk
    isplitl [Hv]; · iexact Hv
    isplitl [Hp2]; · iexact Hp2
    isplitl [Hb2]; · iexact Hb2
    isplitl [Hp3]; · iexact Hp3
    isplitl [Hb3]; · iexact Hb3
    iempintro

/-! ## The combination -/

theorem access_pb (k b : Fin 2) : (pbM.access (pbR k b)).set ⊆ wS k b := by
  rw [show (pbM.access (pbR k b)).set = (pbR k b).set from View.set_slice_whole cc0_scratch0 _, wS_eq]

theorem access_ov (b : Fin 2) : (ovM.access (oR b)).set ⊆ vS b := by
  rw [show (ovM.access (oR b)).set = (oR b).set from View.set_slice_whole cc0_scratch9 _, vS_eq]

/-- The staged row after the combined row's store. -/
theorem store_out (b : Fin 2) (f : Vec F S2x128x512 .bf16) :
    ∀ i ∈ vS b, (ovM.access (oR b)).write (Elt F) f (outV A c b) Finset.univ i = OUT A c i := by
  intro i hi
  rw [vS_eq] at hi
  obtain ⟨j, rfl⟩ := rect_emb hi
  exact (View.write_emb_of_mem (v := ovM.access (oR b)) f (outV A c b) (Finset.mem_univ j)).trans (OUT_emb A c b j).symm

theorem step_comb (b : Fin 2) : Step A K c (.comb b) := by
  intro r kt Q _
  have e1 : owed c (pre c (.comb b) ++ r) = owed c r := by simp [pre, owed, owed1, owesTo]
  have e2 : owed c (post c (.comb b) ++ r) = owed c r := by simp [post, owed, owed1, owesTo]
  rw [e1, e2]
  simp only [Ins.run, combP, Prog.bind_lift, Prog.bind_op, pre, post, hold, Φ]
  iintro ⟨#Hf, ⟨Ho, H0, H1, ⟨%f, Hv⟩, -⟩, HO⟩ HQ
  iapply (wp_load_rect 𝒱₀ (c : Thread nD τ) none Set.univ (m := woM) (r := woR) (S := Finset.univ) (q := fullShare) (f := (A c).wo) (Finset.subset_univ _)) $$ Ho
  iintro Ho
  iapply (wp_load_rect 𝒱₀ (c : Thread nD τ) none Set.univ (m := pbM) (r := pbR 0 b) (S := wS 0 b) (q := shareDrop fullShare 3) (f := PB A) (access_pb 0 b)) $$ H0
  iintro H0
  iapply (wp_load_rect 𝒱₀ (c : Thread nD τ) none Set.univ (m := pbM) (r := pbR 1 b) (S := wS 1 b) (q := shareDrop fullShare 3) (f := PB A) (access_pb 1 b)) $$ H1
  iintro H1
  iapply (wp_load_rect 𝒱₀ (c : Thread nD τ) none Set.univ (m := ovM) (r := oR b) (S := vS b) (q := fullShare) (f := f) (access_ov b)) $$ Hv
  iintro Hv
  iapply (wp_store 𝒱₀ (c : Thread nD τ) none Set.univ (m := ovM) (r := oR b) (S := vS b) (f := f) (by rw [View.setOn_univ]; exact access_ov b)) $$ Hv
  iintro Hv
  have hcg : (ovPt c (vS b) ((ovM.access (oR b)).write (Elt F) f (combV ((woM.access woR).read (Elt F) (A c).wo)
      ((pbM.access (pbR 0 b)).read (Elt F) (PB A)) ((pbM.access (pbR 1 b)).read (Elt F) (PB A))) Finset.univ) : sProp 𝕄) = ovPt c (vS b) (OUT A c) :=
    pointsTo_congr (store_out A c b f)
  ihave Hv := (Entails.of_eq hcg) $$ Hv
  iapply HQ $$ [Ho H0 H1 Hv] HO
  isplitl [Ho]; · iexact Ho
  isplitl [H0]; · iexact H0
  isplitl [H1]; · iexact H1
  isplitl [Hv]; · iexact Hv
  iempintro

end Cert.KernelIdeal.Talk

end
-- ==== Proof.KernelIdeal.BodyEq.lean ====
module

public import proofs.«01_k».proof.Proof.KernelIdeal.Prog

@[expose] public section

noncomputable section

namespace Cert.KernelIdeal.Talk

open Idealize.ShloMosaic Idealize.ShloMosaic.TcCoe Idealize.SL.Sem
open Cert.KernelIdeal Cert.KernelIdeal.Gen

variable {F : FTy → Type} [FloatOps F]

set_option maxRecDepth 65536 in
set_option maxHeartbeats 4000000 in
/-- The printed body reads its device index and runs that device's instructions. -/
theorem body_eq (t : Fin cfg0.N) : bodyAt0 (F := F) t = Prog.op .deviceId (fun c => prog (code c)) := by
  refine congrArg (Prog.op _) (funext fun c => ?_)
  match c with
  | 0 => rfl
  | 1 => rfl
  | 2 => rfl
  | 3 => rfl
  | 4 => rfl
  | 5 => rfl
  | 6 => rfl
  | 7 => rfl

end Cert.KernelIdeal.Talk

end
-- ==== Proof.KernelIdeal.Run.lean ====
/- A device's whole body: from what it holds at entry to what it must give back. -/
module

public import proofs.«01_k».proof.Proof.KernelIdeal.Part
public import proofs.«01_k».proof.Proof.KernelIdeal.BodyEq

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → Inp F) (K : GSem nD τ sig → ℕ) (c : Dev nD)

/-- Every instruction in its place takes `pre` to `post`. -/
theorem step_all (i : Ins) (h : ok c i = true) : Step A K c i := by
  cases i with
  | startL i => exact step_startL A K c i h
  | waitL i => exact step_waitL A K c i h
  | sig p => exact step_sig A K c p h
  | waitB n => exact step_waitB A K c n h
  | recv k b => exact step_recv A K c k b h
  | send d b j => exact step_send A K c d b j h
  | waitS d b j => exact step_waitS A K c d b j h
  | part k b w => exact step_part A K c k b w h
  | comb b => exact step_comb A K c b
  | outL b => exact step_outL A K c b
  | waitO b => exact step_waitO A K c b

/-- A list of instructions that the bookkeeping can run, runs. -/
theorem run_list (l : List Ins) (Q : PUnit → sProp 𝕄) {S S' : List Res} (h : sim c l S = some S') :
    iprop(facts A K c ∗ hold A c S ∗ owing c (owed c S)) ⊢ iprop((hold A c S' -∗ owing c (owed c S') -∗ Q ⟨⟩) -∗ WP c (prog l) Q) := by
  induction l generalizing S with
  | nil =>
    cases h
    simp only [prog, wp_ret]
    iintro ⟨-, Hh, HO⟩ HQ
    iapply HQ $$ Hh HO
  | cons i l ih =>
    unfold sim at h
    split at h
    · cases h
    next r hr =>
    split at h
    · next hok =>
      rw [Bool.and_eq_true] at hok
      have ht := hold_take A c hr
      have hs := step_all A K c i hok.1 r (fun _ => prog l) Q hok.2
      have hn := ih h
      rw [owed_take c hr]
      rw [hold_append] at hn
      iintro ⟨#Hf, Hh, HO⟩ HQ
      ihave Hh := ht $$ Hh
      icases Hh with ⟨HP, Hr⟩
      iapply hs $$ [HP HO]
      · isplitr; · iexact Hf
        isplitl [HP]; · iexact HP
        iexact HO
      iintro HP HO
      iapply hn $$ [HP Hr HO]
      · isplitr; · iexact Hf
        isplitl [HP Hr]
        · isplitl [HP] <;> iassumption
        iexact HO
      iexact HQ
    · cases h

theorem owed_none {l : List Res} (h : (l.all fun r => (owesTo c r).isNone) = true) : owed c l = 0 := by
  induction l with
  | nil => rfl
  | cons r l ih =>
    rw [List.all_cons, Bool.and_eq_true] at h
    have h1 : owesTo c r = none := by simpa using h.1
    show owed1 c r + owed c l = 0
    rw [ih h.2]; unfold owed1; rw [h1]; exact add_zero _

set_option maxRecDepth 100000 in
theorem final_owes : ((final c).all fun r => (owesTo c r).isNone) = true := by revert c; decide +kernel

/-- A device's body, from its initial holdings to its final ones, owing nothing. -/
theorem run_body (Q : PUnit → sProp 𝕄) :
    iprop(facts A K c ∗ hold A c (init c) ∗ owing c (owed c (init c)))
      ⊢ iprop((hold A c (final c) -∗ owing c 0 -∗ Q ⟨⟩) -∗ WP c (prog (code c)) Q) := by
  have h := sim_ok c
  unfold simOk at h
  split at h
  · cases h
  next l hl =>
  have ht : takeAll (final c) l = some [] := by simpa using h
  have hr := run_list A K c (code c) Q hl
  have hh := hold_take A c ht
  rw [owed_take c ht, List.append_nil, owed_none c (final_owes c)] at hr
  iintro H HQ
  iapply hr $$ H
  iintro Hl HO
  ihave Hl := hh $$ Hl
  icases Hl with ⟨Hl, -⟩
  iapply HQ $$ Hl HO

end Cert.KernelIdeal.Talk

end
-- ==== Proof.KernelIdeal.Ends.lean ====
/- The two ends of a device's body: its holdings put together from what the program has, and taken apart again. -/
module

public import proofs.«01_k».proof.Proof.KernelIdeal.Run
public import Idealize.ShloMosaic.Lib.Ring

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok pointsTo_toks_join)
open Cert.KernelIdeal Cert.KernelIdeal.Gen

variable {F : FTy → Type} [FloatOps F]

local notation "𝕄" => MT nD τ sig Unit (Elt F) ℕ UU ℕ

variable (A : Dev nD → Inp F) (K : GSem nD τ sig → ℕ) (c : Dev nD)

/-- A family of holdings over a list without repetitions. -/
theorem hold_map {α : Type} [DecidableEq α] (l : List α) (h : l.Nodup) (f : α → Res) :
    (bigSep l.toFinset (fun a => Φ A c (f a)) : sProp 𝕄) = hold A c (l.map f) := by
  induction l with
  | nil => exact BI.bigSep_empty
  | cons a l ih =>
    rw [List.toFinset_cons, bigSep_insert (by simpa using (List.nodup_cons.mp h).1), ih (List.nodup_cons.mp h).2]
    rfl

theorem univ19 : (Finset.univ : Finset (Fin 19)) = (List.finRange 19).toFinset := by decide

theorem hold_sms (f : Sm → Res) :
    (bigSep Finset.univ (fun i : Fin 19 => Φ A c (f (smTab i))) : sProp 𝕄) = hold A c (sms.map f) := by
  rw [univ19, hold_map A c _ (List.nodup_finRange 19) (fun i => f (smTab i))]
  unfold sms
  rw [List.map_map]; rfl

/-! ## The semaphores -/

/-- Closing a semaphore whose duties are all paid. -/
theorem close1 (q : Sm) : iprop(facts A K c ∗ Φ A c (.pos q (!(dutL c q).isEmpty))) ⊢ (|={Set.univ}=> semVal (cell c q) 0 : sProp 𝕄) := by
  have hI := facts_inv A K c c q
  cases hd : dutL c q with
  | nil =>
    have h0 : ∀ r, 0 ≤ r → (rd A).duties (cell c q) r = ∅ := by
      intro r _
      cases r with
      | zero => rw [duties_eq, hd]; rfl
      | succ r => exact duties_later A _ _ (Nat.succ_le_succ (Nat.zero_le _))
    show iprop(facts A K c ∗ atPos ER (cell c q) 0 ∅ 0) ⊢ _
    iintro ⟨Hf, Hat⟩
    iapply (Rounds.cell_close ER (rd A) (Set.mem_univ (K (cell c q))) id h0)
    isplitl [Hf]
    · iapply hI; iexact Hf
    iexact Hat
  | cons d l =>
    show iprop(facts A K c ∗ atPos ER (cell c q) 1 ∅ 0) ⊢ _
    iintro ⟨Hf, Hat⟩
    iapply (Rounds.cell_close ER (rd A) (Set.mem_univ (K (cell c q))) id (fun r h => duties_later A (cell c q) r h))
    isplitl [Hf]
    · iapply hI; iexact Hf
    iexact Hat

/-- The transfer semaphores of a device, at zero. -/
def zeros : sProp 𝕄 := bigSep Finset.univ (fun i : Fin 19 => semVal (cell c (smTab i)) 0)

/-- Closing all of a device's semaphores. -/
theorem close_all :
    iprop(facts A K c ∗ hold A c (.pos .bar (!(dutL c .bar).isEmpty) :: sms.map fun q => Res.pos q (!(dutL c q).isEmpty)))
      ⊢ (|={Set.univ}=> iprop(semVal (cell c .bar) 0 ∗ zeros c) : sProp 𝕄) := by
  have h0 := close1 A K c .bar
  have h1 : iprop(facts A K c ∗ bigSep Finset.univ (fun i : Fin 19 => Φ A c (.pos (smTab i) (!(dutL c (smTab i)).isEmpty))))
      ⊢ (|={Set.univ}=> zeros c : sProp 𝕄) :=
    (bigSep_with_persistent (R := facts A K c) fun i _ => close1 A K c (smTab i)).trans (bigSep_fupd _ _)
  have h2 := Entails.of_eq (hold_sms A c (fun q => Res.pos q (!(dutL c q).isEmpty))).symm
  show iprop(facts A K c ∗ Φ A c (.pos .bar (!(dutL c .bar).isEmpty)) ∗ hold A c (sms.map fun q => Res.pos q (!(dutL c q).isEmpty))) ⊢ _
  iintro ⟨#Hf, Hb, Hs⟩
  imod h0 $$ [Hb] with Hb
  · isplitr; · iexact Hf
    iexact Hb
  imod h1 $$ [Hs] with Hs
  · isplitr; · iexact Hf
    iapply h2; iexact Hs
  imodintro
  isplitl [Hb] <;> iassumption

/-- Two families side by side are one family of pairs. -/
theorem sep_fam {ι : Type} [Fintype ι] (P Q : ι → sProp 𝕄) :
    (iprop(bigSep Finset.univ P ∗ bigSep Finset.univ Q) ⊢ (bigSep Finset.univ (fun i => iprop(P i ∗ Q i)) : sProp 𝕄))
      ∧ ((bigSep Finset.univ (fun i => iprop(P i ∗ Q i)) : sProp 𝕄) ⊢ iprop(bigSep Finset.univ P ∗ bigSep Finset.univ Q)) :=
  ⟨Entails.of_eq (bigSep_sep _ _ _).symm, Entails.of_eq (bigSep_sep _ _ _)⟩

/-- What a device brings to the opening of its semaphores: every invariant, every barrier's round, its barrier position,
    the rights to open its transfer semaphores, its credits and its duties. -/
def closed : sProp 𝕄 :=
  iprop(bigSep Finset.univ (fun p : Dev nD × Fin 20 => cellInv ER (rd A) (K (cell p.1 (allSm p.2))) (cell p.1 (allSm p.2)))
    ∗ bigSep Finset.univ (fun d : Dev nD => reached ER (cell d .bar) 0)
    ∗ atPos ER (cell c .bar) 0 ∅ 0
    ∗ bigSep Finset.univ (fun i : Fin 19 => openTok ER (cell c (smTab i)))
    ∗ hold A c ((credL c).map Res.cred) ∗ hold A c ((toks c).map (fun t => Res.tok t.1 t.2)))

/-- The holdings of a device at entry, beside its buffers. -/
def init0 : List Res :=
  (.pos .bar false :: sms.map fun q => Res.pos q false) ++ (credL c).map Res.cred ++ (toks c).map (fun t => Res.tok t.1 t.2)

theorem inv_own (d : Dev nD) (q : Sm) :
    (bigSep Finset.univ (fun p : Dev nD × Fin 20 => cellInv ER (rd A) (K (cell p.1 (allSm p.2))) (cell p.1 (allSm p.2))) : sProp 𝕄)
      ⊢ cellInv ER (rd A) (K (cell d q)) (cell d q) := by
  obtain ⟨i, rfl⟩ := allSm_surj q
  exact bigSep_elim (Finset.mem_univ (d, i))

/-- Opening the transfer semaphores. -/
theorem open_all : iprop(closed A K c ∗ zeros c ∗ levAts L lv) ⊢ (|={Set.univ}=> iprop(facts A K c ∗ hold A c (init0 c)) : sProp 𝕄) := by
  have h1 : iprop(bigSep Finset.univ (fun p : Dev nD × Fin 20 => cellInv ER (rd A) (K (cell p.1 (allSm p.2))) (cell p.1 (allSm p.2)))
        ∗ bigSep Finset.univ (fun i : Fin 19 => iprop(openTok ER (cell c (smTab i)) ∗ semVal (cell c (smTab i)) 0)))
      ⊢ (|={Set.univ}=> bigSep Finset.univ (fun i : Fin 19 => iprop(atPos ER (cell c (smTab i)) 0 ∅ 0 ∗ reached ER (cell c (smTab i)) 0)) : sProp 𝕄) :=
    (bigSep_with_persistent fun i _ => by
      have h := inv_own A K c (smTab i)
      iintro ⟨HI, Ho, Hv⟩
      iapply (Rounds.cell_open ER (rd A) (g := cell c (smTab i)) (Set.mem_univ (K (cell c (smTab i)))))
      isplitl [HI]
      · iapply h; iexact HI
      isplitl [Ho] <;> iassumption).trans (bigSep_fupd _ _)
  have h2 : iprop(reached ER (cell c .bar) 0 ∗ bigSep Finset.univ (fun i : Fin 19 => reached ER (cell c (smTab i)) 0))
      ⊢ (bigSep Finset.univ (fun i : Fin 20 => reached ER (cell c (allSm i)) 0) : sProp 𝕄) := by
    refine bigSep_intro_persistent fun i _ => ?_
    refine Fin.cases ?_ (fun j => ?_) i
    · show _ ⊢ reached ER (cell c .bar) 0
      iintro ⟨H, -⟩; iexact H
    · show _ ⊢ reached ER (cell c (smTab j)) 0
      have h : (bigSep Finset.univ (fun i : Fin 19 => reached ER (cell c (smTab i)) 0) : sProp 𝕄) ⊢ reached ER (cell c (smTab j)) 0 :=
        bigSep_elim (Finset.mem_univ j)
      iintro ⟨-, H⟩; iapply h; iexact H
  have h3 : (bigSep Finset.univ (fun d : Dev nD => reached ER (cell d .bar) 0) : sProp 𝕄) ⊢ reached ER (cell c .bar) 0 :=
    bigSep_elim (Finset.mem_univ c)
  have h4 := Entails.of_eq (hold_sms A c (fun q => Res.pos q false))
  unfold closed zeros facts init0
  rw [hold_append, hold_append]
  iintro ⟨⟨#HI, #Hb, Hat, Ho, Hc, Ht⟩, Hz, #Hlev⟩
  ihave Hoz := (sep_fam (fun i : Fin 19 => openTok ER (cell c (smTab i))) (fun i : Fin 19 => semVal (cell c (smTab i)) 0)).1 $$ [Ho Hz]
  · isplitl [Ho] <;> iassumption
  imod h1 $$ [HI Hoz] with Hop
  · isplitl [HI]; · iexact HI
    iexact Hoz
  ihave Hop := (sep_fam _ _).2 $$ Hop
  icases Hop with ⟨Hp, #Hr⟩
  imodintro
  isplitr
  · isplitr; · iexact HI
    isplitr; · iexact Hb
    isplitr
    · iapply h2
      isplitr
      · iapply h3; iexact Hb
      iexact Hr
    iexact Hlev
  isplitr [Ht]
  · isplitr [Hc]
    · simp only [hold, Φ, Bool.false_eq_true, if_false] at h4 ⊢
      isplitl [Hat]; · iexact Hat
      iapply h4; iexact Hp
    iexact Hc
  iexact Ht

/-! ## The buffers -/

/-- The inputs of a device, as its buffers hold them. -/
def inpOf (W : Valuation τ sig (Elt F)) : Inp F where
  x := W (Proc.devRef .tc main_arg0)
  wq := W (Proc.devRef .tc main_arg1)
  k := W (Proc.devRef .tc main_v1)
  v := W (Proc.devRef .tc main_v2)
  wo := W (Proc.devRef .tc main_arg4)

/-- The program's buffers outside the kernel's scope. -/
def outer : Finset (DevRef τ sig) := (StableHlo.tcRefs τ sig).filter fun b => ¬ b.isScoped

theorem outer_eq (W : Valuation τ sig (Elt F)) : (StableHlo.held (c : Thread nD τ) outer W : sProp 𝕄)
    = iprop(pt c main_arg0 (W (Proc.devRef .tc main_arg0)) ∗ pt c main_arg1 (W (Proc.devRef .tc main_arg1))
      ∗ pt c main_arg2 (W (Proc.devRef .tc main_arg2)) ∗ pt c main_arg3 (W (Proc.devRef .tc main_arg3))
      ∗ pt c main_arg4 (W (Proc.devRef .tc main_arg4)) ∗ pt c main_v1 (W (Proc.devRef .tc main_v1))
      ∗ pt c main_v2 (W (Proc.devRef .tc main_v2)) ∗ pt c main_v3 (W (Proc.devRef .tc main_v3))) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

/-- The two arguments the kernel reads only through their transposes. -/
def aside (W : Valuation τ sig (Elt F)) : sProp 𝕄 :=
  iprop(pt c main_arg2 (W (Proc.devRef .tc main_arg2)) ∗ pt c main_arg3 (W (Proc.devRef .tc main_arg3)))

theorem wS_disj (p p' : Fin 2 × Fin 2) (h : p ≠ p') : Disjoint (wS p.1 p.2) (wS p'.1 p'.2) := by
  rw [Finset.disjoint_left]
  intro i h1 h2
  rw [mem_wS] at h1 h2
  exact h (Prod.ext (h1.1.symm.trans h2.1) (h1.2.symm.trans h2.2))
theorem wS_cover : Finset.univ.biUnion (fun p : Fin 2 × Fin 2 => wS p.1 p.2) = Finset.univ := by
  ext i
  simp only [Finset.mem_biUnion, Finset.mem_univ, true_and, iff_true]
  exact ⟨(i 0, i 1), (mem_wS _ _ _).mpr ⟨rfl, rfl⟩⟩
theorem vS_disj (b b' : Fin 2) (h : b ≠ b') : Disjoint (vS b) (vS b') := by
  rw [Finset.disjoint_left]
  intro i h1 h2
  rw [vS_eq, mem_oR] at h1 h2
  exact h (h1.symm.trans h2)
theorem vS_cover : Finset.univ.biUnion vS = Finset.univ := by
  ext i
  simp only [Finset.mem_biUnion, Finset.mem_univ, true_and, iff_true]
  exact ⟨(i 0 : Fin 2), (vS_eq _).symm ▸ (mem_oR _ _).mpr rfl⟩
theorem rS_disj (b b' : Fin 2) (h : b ≠ b') : Disjoint (rS b) (rS b') := by
  rw [Finset.disjoint_left]
  intro i h1 h2
  rw [rS_eq, mem_oR] at h1 h2
  exact h (h1.symm.trans h2)
theorem rS_cover : Finset.univ.biUnion rS = Finset.univ := by
  ext i
  simp only [Finset.mem_biUnion, Finset.mem_univ, true_and, iff_true]
  exact ⟨(i 0 : Fin 2), (rS_eq _).symm ▸ (mem_oR _ _).mpr rfl⟩

/-- The exchange buffer, window by window. -/
theorem pb_windows (f : Vec F S2x2x128x260 .bf16) :
    pt c cc0_scratch0 f = iprop((pbPt c (wS 0 0) fullShare f ∗ pbPt c (wS 0 1) fullShare f) ∗ (pbPt c (wS 1 0) fullShare f ∗ pbPt c (wS 1 1) fullShare f)) := by
  refine (Ring.pointsTo_blocks (ℓ := (c : Thread nD τ).loc cc0_scratch0) (q := fullShare) (fun p : Fin 2 × Fin 2 => wS p.1 p.2) wS_disj wS_cover f).trans ?_
  rw [bigSep_univ_prod, BI.bigSep_fin_two, BI.bigSep_fin_two, BI.bigSep_fin_two]
  rfl
/-- The staged output, row by row. -/
theorem ov_rows (f : Vec F S2x128x512 .bf16) : pt c cc0_scratch9 f = iprop(ovPt c (vS 0) f ∗ ovPt c (vS 1) f) := by
  refine (Ring.pointsTo_blocks (ℓ := (c : Thread nD τ).loc cc0_scratch9) (q := fullShare) vS vS_disj vS_cover f).trans ?_
  rw [BI.bigSep_fin_two]
  rfl
/-- The result, row by row. -/
theorem out_rows (f : Vec F S2x128x512 .bf16) : pt c main_v3 f = iprop(outPt c (rS 0) f ∗ outPt c (rS 1) f) := by
  refine (Ring.pointsTo_blocks (ℓ := (c : Thread nD τ).loc main_v3) (q := fullShare) rS rS_disj rS_cover f).trans ?_
  rw [BI.bigSep_fin_two]
  rfl

/-- A filled window is its four parts. -/
theorem full_elim (k b : Fin 2) : hold A c (full k b) ⊢ pbPt c (wS k b) fullShare (PB A) := by
  have h3 : (bigSep Finset.univ (fun j : Fin 3 => (pbPt c (wS k b) (shareTok fullShare 3 j) (PB A) : sProp 𝕄)))
      = iprop(pbPt c (wS k b) (shareTok fullShare 3 0) (PB A) ∗ pbPt c (wS k b) (shareTok fullShare 3 1) (PB A)
        ∗ pbPt c (wS k b) (shareTok fullShare 3 2) (PB A)) :=
    bigSep_univ_eq_bigSepL [0, 1, 2] (by decide) (by decide) _
  have hj : iprop(pbPt c (wS k b) (shareDrop fullShare 3) (PB A) ∗ bigSep Finset.univ (fun j : Fin 3 => pbPt c (wS k b) (shareTok fullShare 3 j) (PB A)))
      ⊢ (pbPt c (wS k b) fullShare (PB A) : sProp 𝕄) := pointsTo_toks_join fullShare 3
  rw [h3] at hj
  simp only [full, hold, Φ]
  iintro ⟨Hk, H0, H1, H2, -⟩
  iapply hj
  isplitl [Hk]; · iexact Hk
  isplitl [H0]; · iexact H0
  isplitl [H1] <;> iassumption

/-- The buffers at entry, as holdings. -/
theorem bufs_in (W : Valuation τ sig (Elt F)) (hA : A c = inpOf W) :
    iprop(StableHlo.held (c : Thread nD τ) outer W ∗ Pipeline.scopedRest (cfg0.spec) c) ⊢ iprop(hold A c bufs0 ∗ aside c W) := by
  rw [outer_eq, scopedRest0_eq]
  simp only [bufs0, hold, Φ, hA, inpOf, aside]
  iintro ⟨⟨H0, H1, H2, H3, H4, Hk, Hv, Ho⟩, ⟨%fp, Hp⟩, R0, R1, R2, R3, R4, ⟨%fo, Hs⟩⟩
  ihave Hp := (Entails.of_eq (pb_windows c fp)) $$ Hp
  icases Hp with ⟨⟨P00, P01⟩, P10, P11⟩
  ihave Hs := (Entails.of_eq (ov_rows c fo)) $$ Hs
  icases Hs with ⟨S0, S1⟩
  ihave Ho := (Entails.of_eq (out_rows c _)) $$ Ho
  icases Ho with ⟨O0, O1⟩
  isplitr [H2 H3]
  · isplitl [H0]; · iexact H0
    isplitl [H1]; · iexact H1
    isplitl [Hk]; · iexact Hk
    isplitl [Hv]; · iexact Hv
    isplitl [H4]; · iexact H4
    isplitl [R0]; · iexact R0
    isplitl [R1]; · iexact R1
    isplitl [R2]; · iexact R2
    isplitl [R3]; · iexact R3
    isplitl [R4]; · iexact R4
    isplitl [P00]; · iexists fp; iexact P00
    isplitl [P01]; · iexists fp; iexact P01
    isplitl [P10]; · iexists fp; iexact P10
    isplitl [P11]; · iexists fp; iexact P11
    isplitl [S0]; · iexists fo; iexact S0
    isplitl [S1]; · iexists fo; iexact S1
    isplitl [O0]; · iexists _; iexact O0
    isplitl [O1]; · iexists _; iexact O1
    iempintro
  · isplitl [H2] <;> iassumption

/-- The inputs' scratch buffers, whatever they hold. -/
theorem raw_of : hold A c (if c.val < 2 then [.vm 0, .vm 1, .vm 2, .vm 3] else [.raw 0, .raw 1, .raw 2, .raw 3])
    ⊢ hold A c [.raw 0, .raw 1, .raw 2, .raw 3] := by
  split
  · simp only [hold, Φ]
    iintro ⟨H0, H1, H2, H3, -⟩
    isplitl [H0]; · iexists _; iexact H0
    isplitl [H1]; · iexists _; iexact H1
    isplitl [H2]; · iexists _; iexact H2
    isplitl [H3]; · iexists _; iexact H3
    iempintro
  · exact .rfl

/-- The buffers after the kernel: its result is `OUT`. -/
def valOut (W : Valuation τ sig (Elt F)) : Valuation τ sig (Elt F) := Function.update W (Proc.devRef .tc main_v3) (OUT A c)

theorem valOut_out (W : Valuation τ sig (Elt F)) : valOut A c W (Proc.devRef .tc main_v3) = OUT A c := Function.update_self _ _ _
theorem valOut_ne (W : Valuation τ sig (Elt F)) (b : DevRef τ sig) (h : b ≠ Proc.devRef .tc main_v3) : valOut A c W b = W b :=
  Function.update_of_ne h _ _

/-- The buffers at the end, from the last holdings. -/
theorem bufs_out (W : Valuation τ sig (Elt F)) (hA : A c = inpOf W) :
    iprop(hold A c (bufs1 c) ∗ aside c W) ⊢ iprop(StableHlo.held (c : Thread nD τ) outer (valOut A c W) ∗ Pipeline.scopedRest (cfg0.spec) c) := by
  have hr := raw_of A c
  have f00 := full_elim A c 0 0
  have f01 := full_elim A c 0 1
  have f10 := full_elim A c 1 0
  have f11 := full_elim A c 1 1
  have hp := Entails.of_eq (pb_windows c (PB A)).symm
  have ho := Entails.of_eq (ov_rows c (OUT A c)).symm
  have hv := Entails.of_eq (out_rows c (OUT A c)).symm
  rw [outer_eq, scopedRest0_eq, valOut_out, valOut_ne _ _ _ _ (by decide), valOut_ne _ _ _ _ (by decide), valOut_ne _ _ _ _ (by decide),
    valOut_ne _ _ _ _ (by decide), valOut_ne _ _ _ _ (by decide), valOut_ne _ _ _ _ (by decide), valOut_ne _ _ _ _ (by decide)]
  unfold bufs1
  rw [hold_append, hold_append]
  show iprop(((hold A c [.hbm 0, .hbm 1, .hbm 2, .hbm 3, .hbm 4] ∗ _) ∗ Φ A c (.vm 4) ∗ hold A c (full 0 0 ++ full 0 1 ++ full 1 0 ++ full 1 1 ++ [.ofin 0, .ofin 1])) ∗ _) ⊢ _
  rw [hold_append, hold_append, hold_append, hold_append]
  simp only [hold, Φ, hA, inpOf, aside] at hr ⊢
  iintro ⟨⟨⟨⟨H0, H1, Hk, Hv, H4, -⟩, HR⟩, R4, ⟨⟨⟨P00, P01⟩, P10⟩, P11⟩, ⟨O0, S0⟩, ⟨O1, S1⟩, -⟩, H2, H3⟩
  ihave HR := hr $$ HR
  icases HR with ⟨R0, R1, R2, R3, -⟩
  ihave P00 := f00 $$ P00
  ihave P01 := f01 $$ P01
  ihave P10 := f10 $$ P10
  ihave P11 := f11 $$ P11
  isplitl [H0 H1 Hk Hv H4 H2 H3 O0 O1]
  · isplitl [H0]; · iexact H0
    isplitl [H1]; · iexact H1
    isplitl [H2]; · iexact H2
    isplitl [H3]; · iexact H3
    isplitl [H4]; · iexact H4
    isplitl [Hk]; · iexact Hk
    isplitl [Hv]; · iexact Hv
    iapply hv
    isplitl [O0] <;> iassumption
  · isplitl [P00 P01 P10 P11]
    · iexists (PB A)
      iapply hp
      isplitl [P00 P01]
      · isplitl [P00] <;> iassumption
      · isplitl [P10] <;> iassumption
    isplitl [R0]; · iexact R0
    isplitl [R1]; · iexact R1
    isplitl [R2]; · iexact R2
    isplitl [R3]; · iexact R3
    isplitl [R4]; · iexists _; iexact R4
    iexists (OUT A c)
    iapply ho
    isplitl [S0] <;> iassumption

end Cert.KernelIdeal.Talk

end
-- ==== Proof.KernelIdeal.Launch.lean ====
/- The run of the whole program: every device's result is `OUT` of the inputs it started with. -/
module

public import proofs.«01_k».proof.Proof.KernelIdeal.Ends
public import proofs.«01_k».proof.Proof.Gen.KernelIdeal.Frame

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The contents -/

/-- A device's buffers at launch, and after the two transposes. -/
abbrev V₀ (c : Dev nD) : Valuation τ sig (Elt F) := fun b => m ((c : Dev nD), b)
abbrev V₁ (c : Dev nD) : Valuation τ sig (Elt F) := StableHlo.after hostOps0 (V₀ m c)
/-- Every device's inputs to the kernel. -/
def ins (c : Dev nD) : Inp F := inpOf (V₁ m c)
/-- A device's buffers at the end. -/
abbrev V₂ (c : Dev nD) : Valuation τ sig (Elt F) := valOut (ins m) c (V₁ m c)

/-! ## The kernel's region -/

/-- What a device owes at launch. -/
def O₀ (c : Dev nD) : CellTallies nD τ sig Unit := owed c (init c)

/-- The transfer semaphores. -/
def osem (i : Fin 19) : SemLoc sig := (smTab i).sem

def Tk (c : Dev nD) : sProp 𝕄 := iprop(∃ K, closed (ins m) K c)
def Xk (c : Dev nD) : sProp 𝕄 := iprop(∃ K, facts (ins m) K c ∗ hold (ins m) c (init0 c))
def Yk (c : Dev nD) : sProp 𝕄 := semVal (cell c .bar) 0

/-- What a device's body starts from and what it leaves. -/
def Xb (c : Dev nD) : sProp 𝕄 := iprop((∃ K, facts (ins m) K c ∗ hold (ins m) c (init c)) ∗ aside c (V₁ m c) ∗ ∃ r, prngReg c r)
def Yb (c : Dev nD) : sProp 𝕄 :=
  iprop((semVal (cell c .bar) 0 ∗ zeros c) ∗ hold (ins m) c (bufs1 c) ∗ aside c (V₁ m c) ∗ ∃ r, prngReg c r)

def dat (c : Dev nD) : Dat τ (Elt F) Unit ℕ UU ℕ cfg0 c where
  A w := w.elim0
  after w := w.elim0
  Φ t := if t.val = 0 then Xb m c else Yb m c
  q w := w.elim0
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_first (c : Dev nD) : (dat m c).owed t0_0.castSucc = O₀ c := rfl
theorem owed_zero (c : Dev nD) : (pdats m 0 c).owed 0 = O₀ c := rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem no_windows {M : Type} [URA M] (P : Fin 0 → sProp M) : bigSep Finset.univ P = (BI.emp : sProp M) :=
  bigSep_univ_eq_bigSepL [] (by decide) (by decide) P

theorem owesAt_of (c : Dev nD) (t : Fin (cfg0.N + 1)) (O : CellTallies nD τ sig Unit) (h : (dat m c).owed t = O) :
    owing c O ⊢ ((dat m c).owesAt () t : sProp 𝕄) := by
  unfold Dat.owesAt Pipeline.owesWithin Dat.bound
  rw [h]
  iintro ⟨%W, HO⟩
  iexists W
  isplitr
  · ipureintro; exact fun _ _ => Or.inl trivial
  iexact HO
theorem of_owesAt (c : Dev nD) (t : Fin (cfg0.N + 1)) (O : CellTallies nD τ sig Unit) (h : (dat m c).owed t = O) :
    ((dat m c).owesAt () t : sProp 𝕄) ⊢ owing c O := by
  unfold Dat.owesAt Pipeline.owesWithin
  rw [h]
  iintro ⟨%W, -, HO⟩
  iexists W; iexact HO

/-- A device's body, from its semaphores opened to its semaphores closed. -/
theorem body_run (c : Dev nD) (Q : PUnit → sProp 𝕄) :
    iprop(Xb m c ∗ owing c (O₀ c)) ⊢ iprop((Yb m c -∗ owing c 0 -∗ Q ⟨⟩)
      -∗ wp frame (wpE (defs₀ (F := F)) 𝒱₀ (c : Thread nD τ) none) Set.univ (bodyAt0 (F := F) t0_0) Q) := by
  rw [body_eq, wp_deviceId]
  have hb : ∀ K, iprop(facts (ins m) K c ∗ hold (ins m) c (init c) ∗ owing c (owed c (init c)))
      ⊢ iprop((hold (ins m) c (final c) -∗ owing c 0 -∗ |={Set.univ}=> Q ⟨⟩) -∗ WP c (prog (code c)) Q) := fun K => by
    have h := run_body (ins m) K c (fun x => iprop(|={Set.univ}=> Q x))
    have hf : WP c (prog (code c)) (fun x => iprop(|={Set.univ}=> Q x)) ⊢ WP c (prog (code c)) Q := wp_fupd _ _ _ _ _
    iintro H HQ
    iapply hf
    iapply h $$ H HQ
  have hc := fun K => close_all (ins m) K c
  unfold Xb Yb O₀
  iintro ⟨⟨⟨%K, #Hf, Hh⟩, Ha, Hr⟩, HO⟩ HQ
  iapply (hb K) $$ [Hh HO]
  · isplitr; · iexact Hf
    isplitl [Hh] <;> iassumption
  unfold final
  rw [hold_append]
  iintro ⟨Hs, Hb⟩ HO
  imod (hc K) $$ [Hs] with Hz
  · isplitr; · iexact Hf
    iexact Hs
  imodintro
  iapply HQ $$ [Hz Hb Ha Hr] HO
  isplitl [Hz]; · iexact Hz
  isplitl [Hb]; · iexact Hb
  isplitl [Ha] <;> iassumption

theorem body_ok (c : Dev nD) : BodyObligation (dat m c) defs₀ 𝒱₀ () Set.univ := fun t => by
  obtain rfl := fin_N0 t
  rw [no_windows, no_windows]
  have h := body_run m c
  rw [show (dat m c).Φ t0_0.castSucc = Xb m c from rfl, show (dat m c).Φ t0_0.succ = Yb m c from rfl]
  have hO := of_owesAt m c t0_0.castSucc (O₀ c) (owed_first m c)
  have hO' := owesAt_of m c t0_0.succ 0 (owed_last m c)
  iintro ⟨HX, HO, -⟩
  ihave HO := hO $$ HO
  iapply (h _) $$ [HX HO]
  · isplitl [HX] <;> iassumption
  iintro HY HO
  isplitl [HY]; · iexact HY
  isplitl [HO]; · iapply hO'; iexact HO
  iempintro

/-! ## The segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the buffers through the transposes. -/
def R (c : Dev nD) : sProp 𝕄 := iprop((Tk m c ∗ ∃ r, prngReg c r) ∗ ∃ W, owes (c : Thread nD τ) (O₀ c) W)

theorem host_sub : ∀ op ∈ (hostOps0 : List (HloOp τ sig (Elt F))), op.bufs ⊆ outer := fun op h => by
  simp only [hostOps0, List.mem_cons, List.not_mem_nil, or_false] at h
  rcases h with rfl | rfl
  · show ({Proc.devRef .tc main_arg2, Proc.devRef .tc main_v1} : Finset (DevRef τ sig)) ⊆ outer; decide
  · show ({Proc.devRef .tc main_arg3, Proc.devRef .tc main_v2} : Finset (DevRef τ sig)) ⊆ outer; decide
theorem host_fresh : ∀ op ∈ (hostOps0 : List (HloOp τ sig (Elt F))), op.fresh = ∅ := List.forall_iff_forall_mem.mp hostOps0_fresh

def seg0 : ℍ := Pipeline.HostSeg.ofOps _ _ _ _ _ outer hostOps0 host_sub host_fresh (V₀ m) (R m)

theorem kit : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

theorem open_ok (c : Dev nD) : iprop(Tk m c ∗ Pipeline.ownSems0 osem c ∗ levAts L lv) ⊢ (|={Set.univ}=> Xk m c : sProp 𝕄) := by
  have h := fun K => open_all (ins m) K c
  rw [show (Pipeline.ownSems0 osem c : sProp 𝕄) = zeros c from rfl]
  unfold Tk Xk
  iintro ⟨⟨%K, Hc⟩, Hz, Hl⟩
  imod (h K) $$ [Hc Hz Hl] with H
  · isplitl [Hc]; · iexact Hc
    isplitl [Hz]; · iexact Hz
    iexact Hl
  imodintro
  iexists K; iexact H

theorem in_ok (c : Dev nD) : iprop(Pipeline.scopedRest (Pipeline.pin (pcfgs (F := F)) adm 0).spec c ∗ (∃ r, prngReg c r)
    ∗ StableHlo.held (c.tc : Thread nD τ) outer (V₁ m c) ∗ Xk m c) ⊢ (pdats m 0 c).Φ 0 := by
  have h := bufs_in (ins m) c (V₁ m c) rfl
  have ha : ∀ K : GSem nD τ sig → ℕ, hold (ins m) c (init c) = iprop(hold (ins m) c (init0 c) ∗ hold (ins m) c bufs0) := fun K => hold_append _ _ _ _
  rw [show (pdats m 0 c).Φ 0 = Xb m c from rfl]
  unfold Xb Xk
  iintro ⟨Hs, Hr, Hb, ⟨%K, Hf, Hh⟩⟩
  ihave Hb := h $$ [Hb Hs]
  · isplitl [Hb]; · iexact Hb
    iexact Hs
  icases Hb with ⟨Hb, Ha⟩
  isplitl [Hf Hh Hb]
  · iexists K
    isplitl [Hf]; · iexact Hf
    rw [ha K]
    isplitl [Hh] <;> iassumption
  isplitl [Ha] <;> iassumption

theorem out_ok (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) outer (V₂ m c) ∗ Pipeline.ownSems0 osem c ∗ Yk c) := by
  have h := bufs_out (ins m) c (V₁ m c) rfl
  rw [show (pdats m 0 c).Φ (Fin.last _) = Yb m c from rfl, show (Pipeline.ownSems0 osem c : sProp 𝕄) = zeros c from rfl]
  unfold Yb Yk
  iintro ⟨⟨Hz, Hzs⟩, Hb, Ha, Hr⟩
  ihave Hb := h $$ [Hb Ha]
  · isplitl [Hb] <;> iassumption
  icases Hb with ⟨Hb, Hs⟩
  isplitl [Hs]; · iexact Hs
  isplitl [Hr]; · iexact Hr
  isplitl [Hb]; · iexact Hb
  isplitl [Hzs]; · iexact Hzs
  iexact Hz

set_option maxRecDepth 100000 in
theorem init_above : ∀ c : Dev nD, above c 0 (init c) = true := by decide +kernel

/-- What a device owes at launch lies above level 0. -/
theorem init_cut {c : Dev nD} {g : GSem nD τ sig} {u : Unit} (h : 0 < O₀ c g u) : u ∈ L g ∧ (0 : ℕ) < lv g u :=
  above_owed (init_above c) g u h

theorem cut_ok (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact init_cut h
  · exact absurd h (Nat.lt_irrefl 0)

set_option backward.isDefEq.respectTransparency.types false in
def reg0 : ℝ𝕊 0 :=
  Pipeline.RegionSeg.ofTalk (pcfgs (F := F)) adm (pdats m) () defs₀ 𝒱₀ L lv 0 osem (by decide : Pipeline.OwnSemFacts (cfg0.spec) osem)
    outer outer (Finset.Subset.refl _) kit rfl (fun c => (body_ok m c).loose)
    (fun _ => 0) O₀ (fun c => (owed_zero m c).trans (zero_add _).symm) (owed_last m) (fun _ => rfl) (fun _ w => w.elim0)
    (V₁ m) (V₂ m) (fun _ b hb => absurd hb (by rw [Finset.sdiff_self]; exact Finset.notMem_empty b))
    (Tk m) Yk (Xk m) Yk (open_ok m) (in_ok m) (out_ok m)
    (fun c => by iintro H; imodintro; iexact H)
    (fun _ => 0)
    ⟨fun _ w => w.elim0, fun _ w => w.elim0, fun c t g i h => cut_ok m c t g i h⟩
    (fun _ => iprop(emp))
    (fun _ w => w.elim0) (fun _ w => w.elim0)

theorem no_arrays (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

theorem reg_pre (c : Dev nD) : iprop(StableHlo.held (c : Thread nD τ) outer (V₁ m c) ∗ R m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) outer (V₁ m c) ∗ emp) ∗ Tk m c ∗ ∃ Wd, owes (c : Thread nD τ) (0 + O₀ c) Wd)
  rw [no_arrays, zero_add]
  unfold R
  iintro ⟨Hh, ⟨HT, Hr⟩, HO⟩
  isplitr; · iempintro
  isplitl [Hr]; · iexact Hr
  isplitl [Hh]
  · isplitl [Hh]; · iexact Hh
    iempintro
  isplitl [HT] <;> iassumption

theorem reg_post (c : Dev nD) : (reg0 m).post c
    ⊢ iprop((StableHlo.held (c : Thread nD τ) outer (V₂ m c) ∗ semVal (cell c .bar) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) outer (V₂ m c) ∗ emp) ∗ Yk c ∗ ∃ Wd, owes (c : Thread nD τ) (0 : CellTallies nD τ sig Unit) Wd) ⊢ _
  rw [no_arrays]
  unfold Yk
  iintro ⟨-, -, ⟨Hh, -⟩, Hb, HO⟩
  isplitr [HO]
  · isplitl [Hh] <;> iassumption
  iexact HO

def segs : List (Pipeline.Seg (pcfgs (F := F)) adm (pdats m) () defs₀ 𝒱₀ L lv) := [.host (seg0 m), .region (reg0 m)]

theorem main_run (c : Dev nD) : main (F := F) c = Pipeline.Seg.run (segs m) :=
  main_segs adm (pdats m) () 𝒱₀ L lv (seg0 m) (reg0 m) rfl c

/-! ## The launch -/

def barEmb : Dev nD ↪ GSem nD τ sig := ⟨fun c => cell c .bar, fun _ _ h => congrArg (fun g : GSem nD τ sig => g.1.1) h⟩
theorem osem_inj : Function.Injective osem := by decide
def scEmb : Dev nD × Fin 19 ↪ GSem nD τ sig :=
  ⟨fun p => cell p.1 (smTab p.2), fun _ _ h => Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

theorem toks_nodup : ∀ c, (toks c).Nodup := by decide +kernel
/-- The token of a duty of device `c`. -/
def tokEmb (c : Dev nD) : Dev nD × Sm ↪ GSem nD τ sig × ℕ × Dev nD :=
  ⟨fun t => (cell t.1 t.2, 0, c), fun _ _ h =>
    Prod.ext (congrArg (fun x : GSem nD τ sig × ℕ × Dev nD => x.1.1.1) h) (sem_inj (congrArg (fun x : GSem nD τ sig × ℕ × Dev nD => x.1.2) h))⟩
/-- All duties' tokens. -/
def allToks : Finset (GSem nD τ sig × ℕ × Dev nD) := Finset.univ.biUnion fun c : Dev nD => (toks c).toFinset.map (tokEmb c)

theorem deal_toks (A : Dev nD → Inp F) : (bigSep allToks (fun x => dutyTok ER x.1 x.2.1 x.2.2) : sProp 𝕄)
    = bigSep Finset.univ (fun c : Dev nD => hold A c ((toks c).map fun t => Res.tok t.1 t.2)) := by
  unfold allToks
  rw [Idealize.SL.BI.bigSep_biUnion_eq]
  · refine bigSep_congr fun c _ => ?_
    rw [bigSep_map, ← hold_map A c (toks c) (toks_nodup c)]
    rfl
  · intro c _ c' _ h
    rw [Finset.disjoint_left]
    intro x h1 h2
    obtain ⟨t, -, rfl⟩ := Finset.mem_map.mp h1
    obtain ⟨t', -, e⟩ := Finset.mem_map.mp h2
    exact h (congrArg (fun x : GSem nD τ sig × ℕ × Dev nD => x.2.2) e).symm

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact (by decide : ∀ i : Fin 19, (smTab i).sem ≠ Sm.bar.sem) p.2 (congrArg Prod.snd h)

/-- The launch element: the pipeline library's and the exchange's. -/
def u₀ : UU :=
  (initOf (Pipeline.cells (Pipeline.pin (pcfgs (F := F)) adm) cellOf_inj) (Pipeline.launchToks (Pipeline.pin (pcfgs (F := F)) adm) cellOf_inj),
    launchOf barCells scCells allToks)

/-- The exchange's launch element waits on device 0 until the invariants are made. -/
def G (c : Dev nD) : sProp 𝕄 := if c = 0 then BI.own (ER (launchOf barCells scCells allToks)) else iprop(emp)
theorem all_G : bigSep Finset.univ (G (F := F)) = BI.own (ER (launchOf barCells scCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp BI.sep_emp

/-! ### The credits -/

/-- What a list of holdings owes to one semaphore, counted. -/
theorem owed_count (d : Dev nD) (l : List Res) (c : Dev nD) (q : Sm) :
    owed d l (cell c q) () = l.countP (fun r => owesTo d r = some (c, q)) * amt q := by
  induction l with
  | nil => exact (Nat.zero_mul _).symm
  | cons r l ih =>
    show owed1 d r (cell c q) () + owed d l (cell c q) () = _
    rw [ih, List.countP_cons, Nat.add_mul, Nat.add_comm]
    congr 1
    unfold owed1
    cases hr : owesTo d r with
    | none => simp
    | some p =>
      obtain ⟨c', q'⟩ := p
      by_cases e : c' = c ∧ q' = q
      · obtain ⟨rfl, rfl⟩ := e
        simp [tallyAt_apply]
      · have hne : ¬ ((cell c q : GSem nD τ sig) = cell c' q' ∧ () = ()) := fun h =>
          e ⟨(congrArg (fun g : GSem nD τ sig => g.1.1) h.1).symm, (sem_inj (congrArg Prod.snd h.1)).symm⟩
        dsimp only
        rw [tallyAt_apply, if_neg hne, if_neg (by simpa using fun h1 h2 => e ⟨h1, h2⟩), Nat.zero_mul]

set_option maxRecDepth 100000 in
/-- Everything a device waits on for what others do is owed by someone. -/
theorem count_ok : ∀ c : Dev nD, ∀ q ∈ credL c,
    (Finset.univ.sum fun d : Dev nD => (init d).countP (fun r => owesTo d r = some (c, q))) = (dutL c q).length := by decide +kernel

theorem credL_nodup : ∀ c, (credL c).Nodup := by decide +kernel

theorem cred_eq (c : Dev nD) (q : Sm) (h : q ∈ credL c) :
    tallyOn (cell c q) (launchCredit (Pipeline.owing O₀) 0 (cell c q)) = (tallyAt (cell c q) () (tot c q) : CellTallies nD τ sig Unit) := by
  unfold tallyAt
  refine congrArg _ (Finsupp.ext fun u => ?_)
  cases u
  rw [Pipeline.launchCredit_owing, Finsupp.single_eq_same]
  unfold O₀
  rw [Finset.sum_congr rfl fun d _ => owed_count d (init d) c q, ← Finset.sum_mul, count_ok c q h]
  rfl

def semEmb : Sm ↪ SemLoc sig := ⟨Sm.sem, fun _ _ h => sem_inj h⟩

theorem creds (A : Dev nD → Inp F) (c : Dev nD) : (Pipeline.launchCred O₀ c : sProp 𝕄) ⊢ hold A c ((credL c).map Res.cred) := by
  unfold Pipeline.launchCred
  rw [← hold_map A c _ (credL_nodup c)]
  refine (bigSep_subset (Finset.subset_univ ((credL c).toFinset.map semEmb))).trans ?_
  rw [bigSep_map]
  refine Entails.of_eq (bigSep_congr fun q hq => ?_)
  show cred (tallyOn (cell c q) (launchCredit (Pipeline.owing O₀) 0 (cell c q))) = _
  rw [cred_eq c q (List.mem_toFinset.mp hq)]
  rfl

/-! ### The run -/

abbrev T₀ (c : Dev nD) : sProp 𝕄 := iprop(StableHlo.held (c : Thread nD τ) outer (V₀ m c) ∗ R m c)
abbrev Tₙ (c : Dev nD) : sProp 𝕄 := iprop(StableHlo.held (c : Thread nD τ) outer (V₂ m c) ∗ semVal (cell c .bar) 0)

/-- The records that every device may consult. -/
def records (κ : GSem nD τ sig → ℕ) : sProp 𝕄 :=
  iprop((bigSep (barCells ∪ scCells) fun g => cellInv ER (rd (ins m)) (κ g) g) ∗ bigSep barCells fun g => reached ER g 0)
instance records_persistent (κ : GSem nD τ sig → ℕ) : BI.Persistent (records m κ) := by unfold records; infer_instance

theorem cell_mem (d : Dev nD) (i : Fin 20) : cell d (allSm i) ∈ (barCells ∪ scCells : Finset (GSem nD τ sig)) := by
  refine Fin.cases ?_ (fun j => ?_) i
  · exact Finset.mem_union_left _ (Finset.mem_map_of_mem barEmb (Finset.mem_univ d))
  · exact Finset.mem_union_right _ (Finset.mem_map_of_mem scEmb (Finset.mem_univ (d, j)))

theorem records_invs (κ : GSem nD τ sig → ℕ) : records m κ
    ⊢ bigSep Finset.univ (fun p : Dev nD × Fin 20 => cellInv ER (rd (ins m)) (κ (cell p.1 (allSm p.2))) (cell p.1 (allSm p.2))) :=
  bigSep_intro_persistent fun p _ => by
    have h : (bigSep (barCells ∪ scCells) fun g => (cellInv ER (rd (ins m)) (κ g) g : sProp 𝕄))
        ⊢ cellInv ER (rd (ins m)) (κ (cell p.1 (allSm p.2))) (cell p.1 (allSm p.2)) := bigSep_elim (cell_mem p.1 p.2)
    unfold records
    iintro ⟨H, -⟩
    iapply h; iexact H

/-- What stays with one device. -/
def mine (c : Dev nD) : sProp 𝕄 :=
  iprop(atPos ER (cell c .bar) 0 ∅ 0 ∗ (bigSep Finset.univ (fun i : Fin 19 => openTok ER (cell c (smTab i))))
    ∗ hold (ins m) c ((toks c).map fun t => Res.tok t.1 t.2))
def bundle (c : Dev nD) : sProp 𝕄 :=
  iprop(StableHlo.held (c : Thread nD τ) outer (V₀ m c) ∗ hold (ins m) c ((credL c).map Res.cred) ∗ owes (c : Thread nD τ) (O₀ c) ∅ ∗ ∃ r, prngReg c r)

theorem T₀_of (κ : GSem nD τ sig → ℕ) (c : Dev nD) : iprop(records m κ ∗ (mine m c ∗ bundle m c)) ⊢ T₀ m c := by
  have h := records_invs m κ
  have hb : records m κ ⊢ bigSep Finset.univ (fun d : Dev nD => reached ER (cell d .bar) 0) := by
    have e : (bigSep barCells fun g => (reached ER g 0 : sProp 𝕄)) ⊢ bigSep Finset.univ (fun d : Dev nD => reached ER (cell d .bar) 0) :=
      Entails.of_eq (bigSep_map (s := Finset.univ) barEmb (Φ := fun g : GSem nD τ sig => (reached ER g 0 : sProp 𝕄)))
    unfold records
    iintro ⟨-, H⟩
    iapply e; iexact H
  unfold mine bundle T₀ R Tk closed
  iintro ⟨#HR, ⟨Hat, Hop, Htk⟩, Hh, Hcr, HO, Hp⟩
  isplitl [Hh]; · iexact Hh
  isplitr [HO]
  · isplitr [Hp]
    · iexists κ
      isplitr
      · iapply h; iexact HR
      isplitr
      · iapply hb; iexact HR
      isplitl [Hat]; · iexact Hat
      isplitl [Hop]; · iexact Hop
      isplitl [Hcr] <;> iassumption
    · iexact Hp
  · iexists ∅; iexact HO

theorem launch_ok :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hu (c : Dev nD) : (unscopedBufs c (fun b => m ((c : Thread nD τ).loc b)) : sProp 𝕄) = StableHlo.held (c : Thread nD τ) outer (V₀ m c) := by
    unfold unscopedBufs StableHlo.held outer StableHlo.tcRefs
    rw [Finset.filter_map, BI.bigSep_map]
    rfl
  have hs (c : Dev nD) : (unscopedSems0 c : sProp 𝕄) = semVal (cell c .bar) 0 := by
    unfold unscopedSems0
    rw [show (Finset.univ.filter fun sm : SemLoc sig => ¬ sm.isScoped .tc) = {Sm.bar.sem} from by decide, BI.bigSep_singleton]
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cell c .bar) 0 ∗ G c)) : sProp 𝕄) := by
    have hc := creds (ins m) c
    rw [hu, hs]
    unfold bundle
    iintro ⟨Hh, Hus, HO, Hcr, Hp, HG⟩
    ihave Hcr := hc $$ Hcr
    isplitl [Hh Hcr HO Hp]
    · isplitl [Hh]; · iexact Hh
      isplitl [Hcr]; · iexact Hcr
      isplitl [HO]; · iexact HO
      iexists (ρ c); iexact Hp
    isplitl [Hus] <;> iassumption
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ (fun i : Fin 19 => openTok ER (cell c (smTab i)))) :=
    Entails.of_eq (by rw [bigSep_map, bigSep_univ_prod]; rfl)
  have htok := Entails.of_eq (deal_toks (ins m))
  have hG := Entails.of_eq (all_G (F := F))
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (bundle m) ∗ (bigSep Finset.univ (fun c : Dev nD => semVal (cell c .bar) 0)) ∗ bigSep Finset.univ G) : sProp 𝕄) := by
    refine (bigSep_mono fun c _ => hcore c).trans ((sep_fam _ _).2.trans (sep_mono_right (sep_fam _ _).2))
  have hput : iprop(bigSep Finset.univ (fun c : Dev nD => (atPos ER (cell c .bar) 0 ∅ 0 : sProp 𝕄))
        ∗ bigSep Finset.univ (fun c : Dev nD => bigSep Finset.univ (fun i : Fin 19 => openTok ER (cell c (smTab i))))
        ∗ bigSep Finset.univ (fun c : Dev nD => hold (ins m) c ((toks c).map fun t => Res.tok t.1 t.2)))
      ⊢ (bigSep Finset.univ (mine m) : sProp 𝕄) := (sep_mono_right (sep_fam _ _).1).trans (sep_fam _ _).1
  have hput' : iprop(bigSep Finset.univ (mine m) ∗ bigSep Finset.univ (bundle m)) ⊢ (bigSep Finset.univ (fun c => iprop(mine m c ∗ bundle m c)) : sProp 𝕄) :=
    (sep_fam _ _).1
  iintro ⟨H, -⟩
  ihave H := hall $$ H
  icases H with ⟨HB, Hv, HG⟩
  ihave Hu := hG $$ HG
  imod (Rounds.fund_launch ER (rd (ins m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(mine m c ∗ bundle m c)) fun c _ => T₀_of m κ c)
  isplitr
  · unfold records
    isplitr; · iexact Hinv
    iexact Hr
  iapply hput'
  isplitr [HB]
  · iapply hput
    isplitl [Hat]; · iapply hat $$ Hat
    isplitl [Hopen]; · iapply hopen $$ Hopen
    iapply htok $$ Htok
  · iexact HB

/-! ### What the final memory reads -/

theorem V₁_arg (c : Dev nD) : V₁ m c (Proc.devRef .tc main_arg0) = m ((c : Thread nD τ).loc main_arg0)
    ∧ V₁ m c (Proc.devRef .tc main_arg1) = m ((c : Thread nD τ).loc main_arg1)
    ∧ V₁ m c (Proc.devRef .tc main_arg2) = m ((c : Thread nD τ).loc main_arg2)
    ∧ V₁ m c (Proc.devRef .tc main_arg3) = m ((c : Thread nD τ).loc main_arg3)
    ∧ V₁ m c (Proc.devRef .tc main_arg4) = m ((c : Thread nD τ).loc main_arg4) :=
  ⟨V_main_arg0 m c, V_main_arg1 m c, V_main_arg2 m c, V_main_arg3 m c, V_main_arg4 m c⟩

/-- What is known of device `c`'s memory at the end. -/
def Known (c : Dev nD) (s : MemSt nD τ sig (Elt F)) : Prop :=
  s.mem ((c : Thread nD τ).loc main_v3) = OUT (ins m) c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem read_end (c : Dev nD) (s' : Phys nD τ sig (Elt F)) :
    iprop(Tₙ m c ∗ SI s') ⊢ (|={Set.univ}=> iprop(⌜Known m c s'.mem ∧ s'.mem.sem (cell c .bar) = 0⌝ ∗ SI s') : sProp 𝕄) := by
  obtain ⟨e0, e1, e2, e3, e4⟩ := V₁_arg m c
  dsimp only [Tₙ, V₂]
  rw [outer_eq, valOut_out, valOut_ne _ _ _ _ (by decide), valOut_ne _ _ _ _ (by decide), valOut_ne _ _ _ _ (by decide),
    valOut_ne _ _ _ _ (by decide), valOut_ne _ _ _ _ (by decide), valOut_ne _ _ _ _ (by decide), valOut_ne _ _ _ _ (by decide), e0, e1, e2, e3, e4]
  iintro ⟨⟨H, Hz⟩, HSI⟩
  icases H with ⟨H0, H1, H2, H3, H4, H5, H6, H7⟩
  icombine HSI H0 gives %h0
  icombine HSI H1 gives %h1
  icombine HSI H2 gives %h2
  icombine HSI H3 gives %h3
  icombine HSI H4 gives %h4
  icombine HSI H7 gives %h7
  icombine HSI Hz gives %hz
  imodintro
  isplitr
  · ipureintro
    exact ⟨⟨Buf.eq_of_forall_mem_univ h7, Buf.eq_of_forall_mem_univ h0, Buf.eq_of_forall_mem_univ h1, Buf.eq_of_forall_mem_univ h2,
      Buf.eq_of_forall_mem_univ h3, Buf.eq_of_forall_mem_univ h4⟩, by simpa using hz⟩
  iexact HSI

theorem unscoped_bar : ∀ sm : SemLoc sig, sm.isScoped .tc = false → sm = Sm.bar.sem := by decide

set_option backward.isDefEq.respectTransparency.types false in
/-- Every weakly fair run ends; then each device holds `OUT` of the inputs, its arguments are as they were and all semaphores read zero. -/
theorem run_main : θ_run defs (onTc (τ := τ) (main (F := F))) ⟨m, fun _ => 0, ρ⟩
    (fun r => (∀ c : Dev nD, Known m c r.2) ∧ r.2.sem = fun _ => 0) :=
  Pipeline.θ_run_regions_kit_sems (pcfgs (F := F)) adm (pdats m) () cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [all_G]; iexact HX)
    (T₀ := T₀ m) (Tₙ := Tₙ m)
    (hch := ⟨fun c => .rfl, fun c => reg_pre m c, fun c => reg_post m c⟩)
    (hinit := launch_ok m ρ)
    (QY := fun c s => Known m c s ∧ s.sem (cell c .bar) = 0)
    (hfin := read_end m)
    (hQ := fun s h hs => ⟨fun c => (h c).1, sem_eq_zero hs fun c sm hsm => by
      obtain rfl := unscoped_bar sm hsm
      exact (h c).2⟩)

end Cert.KernelIdeal.Talk

end
-- ==== Proof.Frames.lean ====
/- The claims that every run ends, with the arguments unchanged and every semaphore back at zero: for the kernel at both
   instances they are what `run_main` of the talk says, less the result; for the reference its run says it, and a program
   without semaphores has none to leave behind. -/
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Run
public import Idealize.ShloMosaic.Lib.Quiescent

@[expose] public section

noncomputable section

namespace Cert.Frames

open Idealize.ShloMosaic Idealize.SL.Sem

/-- The kernel on words ends, its arguments unchanged, its semaphores at zero. -/
theorem kernel : Cert.quiescent_Kernel := fun m ρ _ =>
  (θ_run _ _ _).mono (fun _ h => ⟨fun c => (h.1 c).2, h.2⟩) (Cert.Kernel.Talk.run_main (F := Bits) m ρ)

/-- The kernel on extended reals ends, its arguments unchanged, its semaphores at zero. -/
theorem kernelIdeal : Cert.quiescent_KernelIdeal := fun m ρ _ =>
  (θ_run _ _ _).mono (fun _ h => ⟨fun c => (h.1 c).2, h.2⟩) (Cert.KernelIdeal.Talk.run_main (F := Ideal) m ρ)

/-- The reference ends, its arguments unchanged; it has no semaphore. -/
theorem referenceIdeal : Cert.quiescent_ReferenceIdeal := fun m ρ _ =>
  (θ_run _ _ _).mono (fun _ h => ⟨fun c => (h c).2, sem_eq_zero_of_no_sems rfl _⟩)
    (Cert.ReferenceIdeal.Value.run (F := Ideal) m ρ)

end Cert.Frames

end
-- ==== Proof.Value.Algebra.lean ====
/- The equation of the extended reals that the value claim rests on: a softmax that subtracts the maximum, divides each
   weight and then sums, against a sum of plain exponentials divided at the end. -/
module

public import Idealize.ShloMosaic.PureOps.Ideal
public import Idealize.ShloMosaic.Lib.IdealHost

@[expose] public section

noncomputable section

namespace Cert.Value

open Idealize.ShloMosaic

/-- A sum times a real that is not negative is the sum of the products. -/
theorem sum_mul_real {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih,
      EReal.right_distrib_of_nonneg_of_ne_top (EReal.coe_nonneg.mpr hc) (EReal.coe_ne_top c)]

/-- A sum of reals, read among the extended reals. -/
theorem sum_real {ι : Type} (S : Finset ι) (f : ι → ℝ) : (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

/-- The factor of the scores, one eighth. -/
abbrev eighth : EReal := Ideal.ofBits .f32 0x3E000000#32
theorem eighth_eq : eighth = (((1 : ℝ) / 8 : ℝ) : EReal) := by
  simp [Ideal.ofBits, Ideal.ieee, -EReal.coe_mul]; norm_num

/-- A score, or minus infinity where the mask drops it. -/
def masked (keep : Prop) [Decidable keep] (s : ℝ) : EReal := if keep then (s : EReal) else ⊥
/-- The plain weight of a score: its exponential, or zero where the mask drops it. -/
def weight (keep : Prop) [Decidable keep] (s : ℝ) : ℝ := if keep then Real.exp s else 0

/-- The exponential of a masked score less a real: the plain weight, scaled. -/
theorem exp_masked_sub (keep : Prop) [Decidable keep] (s r : ℝ) :
    Ideal.exp (masked keep s - (r : EReal)) = ((weight keep s * Real.exp (-r) : ℝ) : EReal) := by
  unfold masked weight
  split
  · rw [← EReal.coe_sub, Ideal.exp_coe, ← Real.exp_add, sub_eq_add_neg]
  · rw [EReal.bot_sub, Ideal.exp_bot, zero_mul, EReal.coe_zero]

variable {ι : Type} [Fintype ι]

/-- The maximum of masked scores, of which one at least is kept, is a real. -/
theorem exists_max (s : ι → ℝ) (keep : ι → Prop) [DecidablePred keep] (j₀ : ι) (h₀ : keep j₀) :
    ∃ r : ℝ, (Finset.univ : Finset ι).fold max ⊥ (fun j => masked (keep j) (s j)) = (r : EReal) := by
  have hlo : (s j₀ : EReal) ≤ (Finset.univ : Finset ι).fold max ⊥ (fun j => masked (keep j) (s j)) := by
    rw [Finset.le_fold_max]
    exact .inr ⟨j₀, Finset.mem_univ _, by simp [masked, h₀]⟩
  have hhi : (Finset.univ : Finset ι).fold max ⊥ (fun j => masked (keep j) (s j)) < ⊤ := by
    rw [Finset.fold_max_lt]
    refine ⟨bot_lt_top, fun j _ => ?_⟩
    unfold masked
    split
    · exact EReal.coe_lt_top _
    · exact bot_lt_top
  exact ⟨_, (EReal.coe_toReal hhi.ne (ne_bot_of_le_ne_bot (EReal.coe_ne_bot _) hlo)).symm⟩

/-- **Softmax, two ways.** Weights that subtract the maximum and are divided one by one, summed against any values,
    give the sum of the plain weights against the values, divided at the end by the plain weights' sum. -/
theorem softmax_eq (s : ι → ℝ) (keep : ι → Prop) [DecidablePred keep] (j₀ : ι) (h₀ : keep j₀) (v : ι → EReal) (M : EReal)
    (hM : M = (Finset.univ : Finset ι).fold max ⊥ (fun j => masked (keep j) (s j))) :
    ∑ j, v j * Ideal.div (Ideal.exp (masked (keep j) (s j) - M)) (∑ k, Ideal.exp (masked (keep k) (s k) - M))
      = Ideal.div (∑ j, (weight (keep j) (s j) : EReal) * v j) (∑ j, (weight (keep j) (s j) : EReal)) := by
  obtain ⟨r, hr⟩ := exists_max s keep j₀ h₀
  rw [hM, hr]
  simp only [exp_masked_sub, sum_real, ← Finset.sum_mul]
  have hw : ∀ j, 0 ≤ weight (keep j) (s j) := fun j => by
    unfold weight; split
    · exact (Real.exp_pos _).le
    · exact le_refl _
  have hD : 0 < ∑ j, weight (keep j) (s j) :=
    lt_of_lt_of_le (by simp [weight, h₀, Real.exp_pos]) (Finset.single_le_sum (fun j _ => hw j) (Finset.mem_univ j₀))
  generalize hDe : ∑ j, weight (keep j) (s j) = D at hD
  have he : 0 < Real.exp (-r) := Real.exp_pos _
  rw [Ideal.div_coe hD.ne', sum_mul_real _ _ _ (by positivity)]
  refine Finset.sum_congr rfl fun j _ => ?_
  rw [Ideal.div_coe (by positivity), ← EReal.coe_mul,
    show weight (keep j) (s j) * Real.exp (-r) * (1 / (D * Real.exp (-r))) = weight (keep j) (s j) * (1 / D) by
      field_simp,
    EReal.coe_mul, mul_left_comm, mul_assoc]

/-- An extended real that is a real. -/
def IsReal (x : EReal) : Prop := ∃ r : ℝ, x = (r : EReal)

theorem IsReal.mul {x y : EReal} : IsReal x → IsReal y → IsReal (x * y) := by
  rintro ⟨r, rfl⟩ ⟨t, rfl⟩; exact ⟨r * t, (EReal.coe_mul r t).symm⟩
theorem IsReal.sum (f : ι → EReal) (h : ∀ i, IsReal (f i)) : IsReal (∑ i, f i) := by
  choose r hr using h
  exact ⟨∑ i, r i, by rw [← sum_real]; exact Finset.sum_congr rfl fun i _ => hr i⟩

/-- What is below infinity in absolute value is a real. -/
theorem isReal_of_abs_lt {x : EReal} (h : max x (-x) < ⊤) : IsReal x := by
  induction x using EReal.rec with
  | bot => simp at h
  | top => simp at h
  | coe r => exact ⟨r, rfl⟩

/-- Key `j` of shard `k`, among all keys. -/
def key (k : Fin 2) (j : Fin 128) : Fin 1024 := ⟨128 * k.val + j.val, by omega⟩

/-- A sum over 1024 keys of which those from 256 on give nothing: the first two shards' keys. -/
theorem sum_keys (f : Fin 1024 → EReal) (h : ∀ j : Fin 1024, 256 ≤ j.val → f j = 0) :
    ∑ j, f j = (∑ j : Fin 128, f (key 0 j)) + ∑ j : Fin 128, f (key 1 j) := by
  have e : ∑ j, f j = ∑ j : Fin (128 + (128 + 768)), f j := rfl
  rw [e, Fin.sum_univ_add, Fin.sum_univ_add]
  rw [Finset.sum_eq_zero (s := Finset.univ) (f := fun i : Fin 768 => f (Fin.natAdd 128 (Fin.natAdd 128 i)))
    (fun i _ => h _ (by simp only [Fin.val_natAdd]; omega)), add_zero]
  refine congrArg₂ (· + ·) (Finset.sum_congr rfl fun j _ => congrArg f (Fin.ext ?_)) rfl
  show j.val = 128 * 0 + j.val
  omega

end Cert.Value

end
-- ==== Proof.Value.Kernel.lean ====
/- What the kernel computes, element by element, over the extended reals. -/
module

public import proofs.«01_k».proof.Proof.KernelIdeal.Vals
public import proofs.«01_k».proof.Proof.Value.Algebra
public import Idealize.ShloMosaic.Lib.Pointwise
public import Idealize.ShloMosaic.Lib.WordCmp

@[expose] public section

noncomputable section

namespace Cert.Value

open Idealize.ShloMosaic Idealize.SL.Sem Cert.KernelIdeal Cert.KernelIdeal.Gen Cert.KernelIdeal.Talk

theorem qV_apply (wq : Vec Ideal S512x256 .f32) (x : Vec Ideal S1x128x512 .f32) (i : Fin 128) (n : Fin 256) :
    qV wq x (ix2 i n) = ∑ d : Fin 512, x (ix3 0 i d) * wq (ix2 d n) := by
  pointwise [qV, k0_pay1]

theorem vtV_apply (v : Vec Ideal S1x4x64x128 .f32) (h : Fin 4) (j : Fin 128) (e : Fin 64) :
    vtV v (ix3 h j e) = v (ix4 0 h e j) := by
  pointwise [vtV, k0_pay2]

theorem onesV_apply (i : S128x1.Idx) : onesV (F := Ideal) i = 1 := by
  pointwise [onesV, k0_pay3]

theorem score_apply (h : Fin 4) (q : FVec Ideal S128x256 .bf16) (k : Vec Ideal S1x1x64x128 .f32) (i j : Fin 128) :
    (mulf (matmul dot_S128x64_S64x128_S128x128_1_0_0_1_n_n none
        (extractStridedSlice S128x64 ![0, 64 * h.val] q (q_slices h))
        (truncf .bf16 (shapeCast S64x128 k shapeCasts_S1x1x64x128_S64x128 : FVec Ideal S64x128 .f32) bitsLt_bf16_f32)
        (constant S128x128 .f32 0x00000000#32))
      (broadcast S128x128 (Scalar.ofBits .f32 0x3E000000#32 : Ideal .f32)) : FVec Ideal S128x128 .f32) (ix2 i j)
    = (∑ e : Fin 64, q (ix2 i ⟨64 * h.val + e.val, by omega⟩) * k (ix4 0 0 e j)) * Ideal.ofBits .f32 0x3E000000#32 := by
  pointwise

theorem part_apply (s : Fin 2) (h : Fin 4) (q : FVec Ideal S128x256 .bf16) (vt : FVec Ideal S4x128x64 .bf16) (ones : FVec Ideal S128x1 .bf16)
    (k : Vec Ideal S1x1x64x128 .f32) (i : Fin 128) (e : Fin 64) :
    ctxV s h q vt ones k (ix4 0 0 i e) = ∑ j : Fin 128, expV s h q k (ix2 i j) * vt (ix3 h j e) := by
  pointwise [ctxV, partV]

theorem den_apply (s : Fin 2) (h : Fin 4) (q : FVec Ideal S128x256 .bf16) (vt : FVec Ideal S4x128x64 .bf16) (ones : FVec Ideal S128x1 .bf16)
    (k : Vec Ideal S1x1x64x128 .f32) (i : Fin 128) :
    denV s h q vt ones k (ix4 0 0 i 0) = ∑ j : Fin 128, expV s h q k (ix2 i j) * ones (ix2 j 0) := by
  pointwise [denV, partV]

theorem comb_apply (wo : Vec Ideal S256x512 .f32) (p0 p1 : Vec Ideal S1x1x128x260 .bf16) (i : Fin 128) (n : Fin 512) :
    combV wo p0 p1 (ix3 0 i n) = ∑ c : Fin 256,
      Ideal.div (p0 (ix4 0 0 i ⟨c.val, by omega⟩) + p1 (ix4 0 0 i ⟨c.val, by omega⟩))
        (p0 (ix4 0 0 i ⟨256 + c.val / 64, by omega⟩) + p1 (ix4 0 0 i ⟨256 + c.val / 64, by omega⟩)) * wo (ix2 c n) := by
  pointwise [combV, k0_pay86]
  refine Finset.sum_congr rfl fun c _ => ?_
  have hc := c.isLt
  have key : ∀ (t : Nat) (ht : 256 + t < 260), c.val / 64 = t →
      (⟨256 + c.val / 64, by omega⟩ : Fin 260) = ⟨256 + t, ht⟩ := fun t ht h => Fin.ext (by show 256 + c.val / 64 = 256 + t; rw [h])
  split_ifs
  · rw [key 0 (by decide) (by omega)]; rfl
  · rw [key 1 (by decide) (by omega)]; rfl
  · rw [key 2 (by decide) (by omega)]; rfl
  · rw [key 3 (by decide) (by omega)]; rfl

theorem expV_apply (s : Fin 2) (h : Fin 4) (q : FVec Ideal S128x256 .bf16) (k : Vec Ideal S1x1x64x128 .f32) (i j : Fin 128) :
    expV s h q k (ix2 i j) = if s.val = 1 ∧ ¬ j.val ≤ i.val then 0 else
      Ideal.exp ((∑ e : Fin 64, q (ix2 i ⟨64 * h.val + e.val, by omega⟩) * k (ix4 0 0 e j)) * eighth) := by
  unfold expV
  match s with
  | 0 =>
    pointwise
    rw [if_neg (fun h => h.1)]
  | 1 =>
    pointwise
    rw [WordCmp.cmpi_sle_ofNat (by omega) (by omega)]
    by_cases hji : j.val ≤ i.val
    · rw [if_neg (not_not_intro hji), decide_eq_true hji]; exact ValueIdx.select_one _ _
    · rw [if_pos hji, decide_eq_false hji]; exact ValueIdx.select_zero _ _

theorem qS_apply (A : Dev nD → Inp Ideal) (k b : Fin 2) (i : Fin 128) (n : Fin 256) :
    qS A k b (ix2 i n) = ∑ d : Fin 512, (A (srcDev k)).x (ix3 b i d) * (A (srcDev k)).wq (ix2 d n) := by
  unfold qS
  rw [qV_apply]
  refine Finset.sum_congr rfl fun d _ => congrArg₂ (· * ·) (congrArg (A (srcDev k)).x (?_ : (xR b).emb (ix3 0 i d) = _))
    (congrArg (A (srcDev k)).wq (?_ : wqR.emb (ix2 d n) = _))
  · funext a
    match a with
    | 0 => exact Fin.ext (by show b.val + 1 * 0 = b.val; omega)
    | 1 => exact Fin.ext (by show 0 + 1 * i.val = i.val; omega)
    | 2 => exact Fin.ext (by show 0 + 1 * d.val = d.val; omega)
  · funext a
    match a with
    | 0 => exact Fin.ext (by show 0 + 1 * d.val = d.val; omega)
    | 1 => exact Fin.ext (by show 0 + 1 * n.val = n.val; omega)

theorem vtS_apply (A : Dev nD → Inp Ideal) (k b : Fin 2) (h : Fin 4) (j : Fin 128) (e : Fin 64) :
    vtS A k b (ix3 h j e) = (A (srcDev k)).v (ix4 b h e j) := by
  unfold vtS
  rw [vtV_apply]
  refine congrArg (A (srcDev k)).v (?_ : (vR b).emb (ix4 0 h e j) = _)
  funext a
  match a with
  | 0 => exact Fin.ext (by show b.val + 1 * 0 = b.val; omega)
  | 1 => exact Fin.ext (by show 0 + 1 * h.val = h.val; omega)
  | 2 => exact Fin.ext (by show 0 + 1 * e.val = e.val; omega)
  | 3 => exact Fin.ext (by show 0 + 1 * j.val = j.val; omega)

theorem kS_apply (A : Dev nD → Inp Ideal) (k b : Fin 2) (h : Fin 4) (e : Fin 64) (j : Fin 128) :
    kS A k b h (ix4 0 0 e j) = (A (srcDev k)).k (ix4 b h e j) := by
  refine congrArg (A (srcDev k)).k (?_ : (kR b h).emb (ix4 0 0 e j) = _)
  funext a
  match a with
  | 0 => exact Fin.ext (by show b.val + 1 * 0 = b.val; omega)
  | 1 => exact Fin.ext (by show h.val + 1 * 0 = h.val; omega)
  | 2 => exact Fin.ext (by show 0 + 1 * e.val = e.val; omega)
  | 3 => exact Fin.ext (by show 0 + 1 * j.val = j.val; omega)

variable (A : Dev nD → Inp Ideal)

/-- The exponential that the source of shard `k` computes for query `i` and its key `j` in head `h`; zero where it masks. -/
def expK (k b : Fin 2) (h : Fin 4) (i j : Fin 128) : EReal :=
  if k.val = 1 ∧ ¬ j.val ≤ i.val then 0 else
    Ideal.exp ((∑ e : Fin 64, (∑ d : Fin 512, (A (srcDev k)).x (ix3 b i d) * (A (srcDev k)).wq (ix2 d ⟨64 * h.val + e.val, by omega⟩))
      * (A (srcDev k)).k (ix4 b h e j)) * eighth)

theorem expV_src (k b : Fin 2) (h : Fin 4) (i j : Fin 128) : expV k h (qS A k b) (kS A k b h) (ix2 i j) = expK A k b h i j := by
  rw [expV_apply]
  simp only [qS_apply, kS_apply]
  rfl

/-- A context column of the exchange buffer. -/
theorem PB_ctx_apply (k b : Fin 2) (i : Fin 128) (c : Fin 256) :
    PB A (ix4 k b i ⟨c.val, by omega⟩)
      = ∑ j : Fin 128, expK A k b ⟨c.val / 64, by omega⟩ i j * (A (srcDev k)).v (ix4 b ⟨c.val / 64, by omega⟩ ⟨c.val % 64, by omega⟩ j) := by
  have hi : (ix4 k b i ⟨c.val, by omega⟩ : S2x2x128x260.Idx)
      = (ctxR k b ⟨c.val / 64, by omega⟩).emb (ix4 0 0 i ⟨c.val % 64, by omega⟩) := by
    funext a
    match a with
    | 0 => exact Fin.ext (by show k.val = k.val + 1 * 0; omega)
    | 1 => exact Fin.ext (by show b.val = b.val + 1 * 0; omega)
    | 2 => exact Fin.ext (by show i.val = 0 + 1 * i.val; omega)
    | 3 => exact Fin.ext (by show c.val = 64 * (c.val / 64) + 1 * (c.val % 64); omega)
  rw [hi, PB_ctx]
  refine (part_apply _ _ _ _ _ _ _ _).trans (Finset.sum_congr rfl fun j _ => ?_)
  rw [expV_src, vtS_apply]

/-- A denominator column of the exchange buffer. -/
theorem PB_den_apply (k b : Fin 2) (i : Fin 128) (h : Fin 4) :
    PB A (ix4 k b i ⟨256 + h.val, by omega⟩) = ∑ j : Fin 128, expK A k b h i j := by
  have hi : (ix4 k b i ⟨256 + h.val, by omega⟩ : S2x2x128x260.Idx) = (denR k b h).emb (ix4 0 0 i 0) := by
    funext a
    match a with
    | 0 => exact Fin.ext (by show k.val = k.val + 1 * 0; omega)
    | 1 => exact Fin.ext (by show b.val = b.val + 1 * 0; omega)
    | 2 => exact Fin.ext (by show i.val = 0 + 1 * i.val; omega)
    | 3 => exact Fin.ext (by show 256 + h.val = 256 + h.val + 1 * 0; omega)
  rw [hi, PB_den]
  refine (den_apply _ _ _ _ _ _ _).trans (Finset.sum_congr rfl fun j _ => ?_)
  rw [expV_src, onesV_apply, mul_one]

/-- A window of the exchange buffer, as the combination reads it. -/
theorem PB_read (k b : Fin 2) (i : Fin 128) (n : Fin 260) :
    (pbM.access (pbR k b)).read (Elt Ideal) (PB A) (ix4 0 0 i n) = PB A (ix4 k b i n) := by
  refine congrArg (PB A) (?_ : (pbR k b).emb (ix4 0 0 i n) = _)
  funext a
  match a with
  | 0 => exact Fin.ext (by show k.val + 1 * 0 = k.val; omega)
  | 1 => exact Fin.ext (by show b.val + 1 * 0 = b.val; omega)
  | 2 => exact Fin.ext (by show 0 + 1 * i.val = i.val; omega)
  | 3 => exact Fin.ext (by show 0 + 1 * n.val = n.val; omega)

/-- What the partials give for context column `c` of query `i`: their contexts' sum over their denominators' sum. -/
def ctxK (b : Fin 2) (i : Fin 128) (c : Fin 256) : EReal :=
  Ideal.div
    ((∑ j : Fin 128, expK A 0 b ⟨c.val / 64, by omega⟩ i j * (A (srcDev 0)).v (ix4 b ⟨c.val / 64, by omega⟩ ⟨c.val % 64, by omega⟩ j))
      + ∑ j : Fin 128, expK A 1 b ⟨c.val / 64, by omega⟩ i j * (A (srcDev 1)).v (ix4 b ⟨c.val / 64, by omega⟩ ⟨c.val % 64, by omega⟩ j))
    ((∑ j : Fin 128, expK A 0 b ⟨c.val / 64, by omega⟩ i j) + ∑ j : Fin 128, expK A 1 b ⟨c.val / 64, by omega⟩ i j)

/-- **A device's result, element by element.** -/
theorem OUT_apply (d : Dev nD) (b : Fin 2) (i : Fin 128) (n : Fin 512) :
    OUT A d (ix3 b i n) = ∑ c : Fin 256, ctxK A b i c * (A d).wo (ix2 c n) := by
  have hi : (ix3 b i n : S2x128x512.Idx) = (oR b).emb (ix3 0 i n) := by
    funext a
    match a with
    | 0 => exact Fin.ext (by show b.val = b.val + 1 * 0; omega)
    | 1 => exact Fin.ext (by show i.val = 0 + 1 * i.val; omega)
    | 2 => exact Fin.ext (by show n.val = 0 + 1 * n.val; omega)
  rw [hi, OUT_emb]
  refine (comb_apply _ _ _ _ _).trans (Finset.sum_congr rfl fun c _ => ?_)
  have hc := c.isLt
  simp only [PB_read, PB_ctx_apply]
  rw [PB_den_apply A 0 b i ⟨c.val / 64, by omega⟩, PB_den_apply A 1 b i ⟨c.val / 64, by omega⟩]
  refine congrArg₂ (· * ·) rfl (congrArg (A d).wo (?_ : woR.emb (ix2 c n) = _))
  funext a
  match a with
  | 0 => exact Fin.ext (by show 0 + 1 * c.val = c.val; omega)
  | 1 => exact Fin.ext (by show 0 + 1 * n.val = n.val; omega)

end Cert.Value

end
-- ==== Proof.Value.Reference.lean ====
/- What the reference computes, element by element, over the extended reals, once its scores are reals. -/
module

public import proofs.«01_k».proof.Proof.Gen.ReferenceIdeal.Run
public import proofs.«01_k».proof.Proof.Value.Algebra
public import Idealize.ShloMosaic.Lib.Pointwise
public import Idealize.ShloMosaic.Lib.WordCmp
public import Idealize.ShloMosaic.Lib.WordArith

@[expose] public section

noncomputable section

namespace Cert.Value

open Idealize.ShloMosaic Idealize.SL.Sem

/-! ## The mask -/

/-- Key `j` is kept for query `i`: it lies at most 128 after it (one before it is always that near). -/
abbrev kept (i : Fin 128) (j : Fin 1024) : Prop := j.val ≤ i.val + 128

/-- The mask's word for query `i` and key `j`. -/
theorem mask_word (i : Fin 128) (j : Fin 1024) :
    IntOp.cmpi .sle (IntOp.absi (IntOp.subi (BitVec.ofNat 32 i.val) (BitVec.ofNat 32 j.val))) 128#32
      = BitVec.ofBool (decide (kept i j)) := by
  have hi := i.isLt; have hj := j.isLt
  have hs : (IntOp.subi (BitVec.ofNat 32 i.val) (BitVec.ofNat 32 j.val)).toInt = (i.val : Int) - j.val := by
    have e1 := WordArith.toInt_ofNat_small i.val (by omega)
    have e2 := WordArith.toInt_ofNat_small j.val (by omega)
    refine (WordArith.toInt_sub_of_bounds _ _ ?_ ?_).trans ?_ <;> rw [e1, e2] <;> omega
  have ha : (IntOp.absi (IntOp.subi (BitVec.ofNat 32 i.val) (BitVec.ofNat 32 j.val))).toInt = |(i.val : Int) - j.val| := by
    generalize IntOp.subi (BitVec.ofNat 32 i.val) (BitVec.ofNat 32 j.val) = x at hs
    unfold IntOp.absi
    rw [BitVec.msb_eq_toInt, hs]
    by_cases hn : (i.val : Int) - j.val < 0
    · rw [if_pos (by simpa using hn), BitVec.toInt_neg, hs, abs_of_neg hn]
      rw [Int.bmod_eq_of_le] <;> omega
    · rw [if_neg (by simpa using hn), hs, abs_of_nonneg (by omega)]
  rw [WordCmp.cmpi_sle_eq, ha]
  congr 1
  rw [decide_eq_decide, show (128#32).toInt = 128 from rfl, abs_le]
  unfold kept
  omega

/-- Some key is kept for every query: the first. -/
theorem keep_row (i : Fin 128) :
    Finset.fold IntOp.ori (0#1) (fun j : Fin 1024 => BitVec.ofBool (decide (kept i j))) Finset.univ = 1#1 := by
  rw [← Finset.insert_erase (Finset.mem_univ (0 : Fin 1024)), Finset.fold_insert (Finset.notMem_erase _ _),
    decide_eq_true (show kept i 0 from Nat.zero_le _)]
  generalize Finset.fold IntOp.ori _ _ _ = y
  revert y; decide

theorem select_ofBool {α : Type} (p : Prop) [Decidable p] (a b : α) :
    Scalar.select (BitVec.ofBool (decide p)) a b = if p then a else b := by
  by_cases h : p
  · rw [decide_eq_true h, if_pos h]; exact ValueIdx.select_one a b
  · rw [decide_eq_false h, if_neg h]; exact ValueIdx.select_zero a b

/-- The word of minus infinity. -/
theorem ofBits_bot : Ideal.ofBits .f32 0xFF800000#32 = ⊥ := by simp [Ideal.ofBits, Ideal.ieee]

/-! ## The result -/

open Cert.ReferenceIdeal Cert.ReferenceIdeal.Gen Cert.ReferenceIdeal.Value

/-- The scaled score of query `i` and key `j` in batch row `b`, head `h`. -/
def scoreR (x : S2x128x512.Idx → EReal) (wq : S512x256.Idx → EReal) (k : S2x1024x4x64.Idx → EReal)
    (b : Fin 2) (h : Fin 4) (i : Fin 128) (j : Fin 1024) : EReal :=
  (∑ e : Fin 64, (∑ d : Fin 512, x (ix3 b i d) * wq (ix2 d ⟨h.val * 64 + e.val, by omega⟩)) * k (ix4 b j h e)) * eighth

/-- **The reference's result, element by element**, where its scores are reals `s`. -/
theorem ref_apply (m : (ℓ : Loc nD τ sig) → Buf (Elt Ideal) ℓ) (c : Dev nD) (s : Fin 2 → Fin 4 → Fin 128 → Fin 1024 → ℝ)
    (hs : ∀ b h i j, scoreR (m ((c.tc : Thread nD τ).loc main_arg0)) (m ((c.tc : Thread nD τ).loc main_arg1))
      (m ((c.tc : Thread nD τ).loc main_arg2)) b h i j = (s b h i j : EReal))
    (b : Fin 2) (i : Fin 128) (n : Fin 512) :
    (res_main_v35 m c : S2x128x512.Idx → EReal) (ix3 b i n) = ∑ col : Fin 256,
      Ideal.div
        (∑ j : Fin 1024, (weight (kept i j) (s b ⟨col.val / 64, by omega⟩ i j) : EReal)
          * (m ((c.tc : Thread nD τ).loc main_arg3) : S2x1024x4x64.Idx → EReal) (ix4 b j ⟨col.val / 64, by omega⟩ ⟨col.val % 64, by omega⟩))
        (∑ j : Fin 1024, (weight (kept i j) (s b ⟨col.val / 64, by omega⟩ i j) : EReal))
      * (m ((c.tc : Thread nD τ).loc main_arg4) : S256x512.Idx → EReal) (ix2 col n) := by
  pointwise [res_main_v35]
  show @Eq EReal _ _
  refine Finset.sum_congr rfl fun col _ => ?_
  refine congrArg₂ (· * ·) ?_ rfl
  have hc := col.isLt
  have hs' := fun j => hs b ⟨col.val / 64, by omega⟩ i j
  unfold scoreR at hs'
  simp only [mask_word, keep_row, select_ofBool, ValueIdx.select_one, id, ValueIdx.constant_apply, ofBits_bot, hs']
  exact softmax_eq (s b ⟨col.val / 64, by omega⟩ i) (kept i) 0 (Nat.zero_le _) _ _ rfl

end Cert.Value

end
-- ==== Proof.Value.Equal.lean ====
/- The kernel's result is the reference's: on every device, element by element, where the scores are reals. -/
module

public import proofs.«01_k».proof.Proof.Value.Kernel
public import proofs.«01_k».proof.Proof.Value.Reference

@[expose] public section

noncomputable section

namespace Cert.Value

open Idealize.ShloMosaic Idealize.SL.Sem Cert.KernelIdeal.Talk
open Cert.KernelIdeal (nD S2x128x512 S512x256 S256x512)
open Cert.ReferenceIdeal (S2x1024x4x64)

variable (A : Dev nD → Inp Ideal) (x : S2x128x512.Idx → EReal) (wq : S512x256.Idx → EReal) (K V : S2x1024x4x64.Idx → EReal)
  (wo : S256x512.Idx → EReal)

/-- Every device holds `x`, `wq` and `wo`, and the source of shard `k` holds that shard of `K` and of `V`. -/
structure Holds : Prop where
  x : ∀ c, (A c).x = x
  wq : ∀ c, (A c).wq = wq
  k : ∀ k b h e j, (A (srcDev k)).k (ix4 b h e j) = K (ix4 b (key k j) h e)
  v : ∀ k b h e j, (A (srcDev k)).v (ix4 b h e j) = V (ix4 b (key k j) h e)
  wo : ∀ c, (A c).wo = wo

variable {A x wq K V wo} (H : Holds A x wq K V wo) (s : Fin 2 → Fin 4 → Fin 128 → Fin 1024 → ℝ)
  (hs : ∀ b h i j, scoreR x wq K b h i j = (s b h i j : EReal))

include H hs in
/-- The exponential that the source of shard `k` computes is the plain weight of the reference's score. -/
theorem expK_eq (k b : Fin 2) (h : Fin 4) (i j : Fin 128) :
    expK A k b h i j = (weight (kept i (key k j)) (s b h i (key k j)) : EReal) := by
  have hk := k.isLt; have hj := j.isLt
  unfold expK weight
  have e : (kept i (key k j)) ↔ ¬ (k.val = 1 ∧ ¬ j.val ≤ i.val) := by
    show 128 * k.val + j.val ≤ i.val + 128 ↔ _
    omega
  by_cases hc : k.val = 1 ∧ ¬ j.val ≤ i.val
  · rw [if_pos hc, if_neg (fun h' => e.1 h' hc), EReal.coe_zero]
  · rw [if_neg hc, if_pos (e.2 hc), ← Ideal.exp_coe, ← hs]
    unfold scoreR
    refine congrArg Ideal.exp (congrArg (· * eighth) (Finset.sum_congr rfl fun t _ => ?_))
    rw [H.k, H.x, H.wq]
    refine congrArg (· * _) (Finset.sum_congr rfl fun d _ => congrArg (x _ * wq ·) ?_)
    exact congrArg (ix2 d) (Fin.ext (by show 64 * h.val + t.val = h.val * 64 + t.val; omega))

include H hs in
/-- A context column after the division. -/
theorem ctxK_eq (b : Fin 2) (i : Fin 128) (c : Fin 256) :
    ctxK A b i c = Ideal.div
      (∑ j : Fin 1024, (weight (kept i j) (s b ⟨c.val / 64, by omega⟩ i j) : EReal) * V (ix4 b j ⟨c.val / 64, by omega⟩ ⟨c.val % 64, by omega⟩))
      (∑ j : Fin 1024, (weight (kept i j) (s b ⟨c.val / 64, by omega⟩ i j) : EReal)) := by
  have hfar : ∀ (j : Fin 1024) (r : ℝ), 256 ≤ j.val → ((weight (kept i j) r : ℝ) : EReal) = 0 := fun j r hj => by
    have hi := i.isLt
    unfold weight
    rw [if_neg (by show ¬ j.val ≤ i.val + 128; omega), EReal.coe_zero]
  unfold ctxK
  rw [sum_keys _ (fun j hj => by rw [hfar j _ hj, zero_mul]), sum_keys _ (fun j hj => hfar j _ hj)]
  simp only [expK_eq H s hs, H.v]

include H hs in
/-- **The result of every device.** -/
theorem OUT_eq (d : Dev nD) (b : Fin 2) (i : Fin 128) (n : Fin 512) :
    OUT A d (ix3 b i n) = ∑ c : Fin 256, Ideal.div
      (∑ j : Fin 1024, (weight (kept i j) (s b ⟨c.val / 64, by omega⟩ i j) : EReal) * V (ix4 b j ⟨c.val / 64, by omega⟩ ⟨c.val % 64, by omega⟩))
      (∑ j : Fin 1024, (weight (kept i j) (s b ⟨c.val / 64, by omega⟩ i j) : EReal)) * wo (ix2 c n) := by
  rw [OUT_apply]
  simp only [ctxK_eq H s hs, H.wo]

end Cert.Value

end
-- ==== Proof.Value.Finite.lean ====
/- The precondition read back: where it is all ones, the activations, the query weights and the keys are reals. -/
module

public import proofs.«01_k».proof.Pre_finite_KernelIdeal
public import proofs.«01_k».proof.Pre_finite_ReferenceIdeal
public import proofs.«01_k».proof.Proof.Value.Algebra
public import Idealize.ShloMosaic.Lib.ReduceAll
public import Idealize.ShloMosaic.Lib.IdealHost

@[expose] public section

noncomputable section

namespace Cert.Pre_finite_KernelIdeal

open Idealize.ShloMosaic

/-- The side conditions that the precondition states over one device's blocks. -/
instance facts : Facts where
  bcast_S_S2x128x512 := by decide
  reducesTo_S2x128x512_S_d0_1_2 := by decide
  h_S_ := by decide
  bcast_S_S512x256 := by decide
  reducesTo_S512x256_S_d0_1 := by decide
  bcast_S_S2x128x4x64 := by decide
  reducesTo_S2x128x4x64_S_d0_1_2_3 := by decide

instance : Subsingleton S_.Idx := ⟨fun a b => funext fun d => d.elim0⟩

/-- The word of plus infinity. -/
theorem ofBits_top : Ideal.ofBits .f32 0x7F800000#32 = ⊤ := by simp [Ideal.ofBits, Ideal.ieee]

/-- An element compared below infinity in absolute value is a real. -/
theorem isReal_of_word {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) :
    Cert.Value.IsReal (x i) := by
  rw [ValueIdx.cmpf_apply, ValueIdx.broadcastInDim_scalar_apply, ValueIdx.constant_apply, ofBits_top] at e
  refine Cert.Value.isReal_of_abs_lt ?_
  have e' : BitVec.ofBool (decide (max (x i) (-(x i)) < ⊤)) = 1#1 := e
  by_contra hn
  rw [decide_eq_false hn] at e'
  exact absurd e' (by decide)

/-- Where the precondition holds, every activation, query weight and key is a real. -/
theorem isReal (x : FVec Ideal S2x128x512 .f32) (wq : FVec Ideal S512x256 .f32) (k v : FVec Ideal S2x128x4x64 .f32)
    (wo : FVec Ideal S256x512 .f32) (h : fn (F := Ideal) x wq k v wo = fun _ => 1#1) :
    (∀ i, Cert.Value.IsReal (x i)) ∧ (∀ i, Cert.Value.IsReal (wq i)) ∧ ∀ i, Cert.Value.IsReal (k i) := by
  have h0 := congrFun h ValueIdx.ix0
  obtain ⟨h1, hk⟩ := IntOp.andi_eq_one.1 h0
  obtain ⟨hx, hw⟩ := IntOp.andi_eq_one.1 h1
  exact ⟨fun i => isReal_of_word x _ i (Host.reduce_andi_all _ _ _ _ _ hx i),
    fun i => isReal_of_word wq _ i (Host.reduce_andi_all _ _ _ _ _ hw i),
    fun i => isReal_of_word k _ i (Host.reduce_andi_all _ _ _ _ _ hk i)⟩

end Cert.Pre_finite_KernelIdeal

namespace Cert.Pre_finite_ReferenceIdeal

open Idealize.ShloMosaic

/-- The side conditions that the precondition states over the whole arrays. -/
instance facts : Facts where
  bcast_S_S2x128x512 := by decide
  reducesTo_S2x128x512_S_d0_1_2 := by decide
  h_S_ := by decide
  bcast_S_S512x256 := by decide
  reducesTo_S512x256_S_d0_1 := by decide
  bcast_S_S2x1024x4x64 := by decide
  reducesTo_S2x1024x4x64_S_d0_1_2_3 := by decide

end Cert.Pre_finite_ReferenceIdeal

end
-- ==== Proof.Value.Algebraic.lean ====
/- The value claim: from memories where each device holds its copies and its shards of the reference's arrays, all finite
   in the activations, the query weights and the keys, every device ends with the reference's whole result. -/
module

public import proofs.«01_k».proof.Defs
public import proofs.«01_k».proof.Proof.KernelIdeal.Launch
public import proofs.«01_k».proof.Proof.Value.Equal
public import proofs.«01_k».proof.Proof.Value.Finite

@[expose] public section

noncomputable section

namespace Cert.Value

open Idealize.ShloMosaic Idealize.SL.Sem Cert.KernelIdeal.Talk Cert.KernelIdeal Cert.KernelIdeal.Gen

/-- Where the element of a device's shard is in the whole array of keys or values. -/
theorem idx_eq (c : Fin 8) (h : Layout.Tiles ⟨4, ![2, 128, 4, 64]⟩ ⟨4, ![2, 1024, 4, 64]⟩ 1 8)
    (b : Fin 2) (j : Fin 128) (hd : Fin 4) (e : Fin 64) (q : Fin 1024) (hq : q.val = c.val * 128 + j.val) :
    h.idx c (ix4 b j hd e) = ix4 b q hd e := by
  funext a
  match a with
  | 0 => exact Fin.ext rfl
  | 1 => exact Fin.ext hq.symm
  | 2 => exact Fin.ext rfl
  | 3 => exact Fin.ext rfl

section

variable (m : (ℓ : Loc nD τ sig) → Buf (Elt Ideal) ℓ)

/-- The kernel's key operand is the argument with the key axis moved last. -/
theorem ins_k (c : Dev nD) : (ins m c).k = transpose S2x4x64x128 [0, 2, 3, 1] (m ((c.tc : Thread nD τ).loc main_arg2))
    transposes_S2x128x4x64_S2x4x64x128_0_2_3_1 := by
  show StableHlo.after hostOps0 (V₀ m c) (Proc.devRef .tc main_v1) = _
  after_results_simp <;> rfl

/-- The kernel's value operand is the argument with the key axis moved last. -/
theorem ins_v (c : Dev nD) : (ins m c).v = transpose S2x4x64x128 [0, 2, 3, 1] (m ((c.tc : Thread nD τ).loc main_arg3))
    transposes_S2x128x4x64_S2x4x64x128_0_2_3_1 := by
  show StableHlo.after hostOps0 (V₀ m c) (Proc.devRef .tc main_v2) = _
  after_results_simp <;> rfl

end

/-- The transpose at an index. -/
theorem transpose_ix (w : S2x128x4x64.Idx → EReal) (b : Fin 2) (h : Fin 4) (e : Fin 64) (j : Fin 128) :
    transpose S2x4x64x128 [0, 2, 3, 1] w transposes_S2x128x4x64_S2x4x64x128_0_2_3_1 (ix4 b h e j) = w (ix4 b j h e) := by
  pointwise

/-- Two arrays of the result's shape that agree at every triple of coordinates are equal. -/
theorem ext_ix3 (f g : S2x128x512.Idx → EReal) (h : ∀ (b : Fin 2) (i : Fin 128) (n : Fin 512), f (ix3 b i n) = g (ix3 b i n)) :
    f = g := by
  funext a
  have e : ix3 (a 0 : Fin 2) (a 1 : Fin 128) (a 2 : Fin 512) = a := by
    funext t
    match t with
    | 0 => rfl
    | 1 => rfl
    | 2 => rfl
  have r := h (a 0) (a 1) (a 2)
  exact (congrArg f e).symm.trans (r.trans (congrArg g e))

/-- The scores over finite activations, query weights and keys are reals. -/
theorem scoreR_isReal {x : S2x128x512.Idx → EReal} {wq : S512x256.Idx → EReal} {K : Cert.ReferenceIdeal.S2x1024x4x64.Idx → EReal}
    (hx : ∀ i, IsReal (x i)) (hw : ∀ i, IsReal (wq i)) (hK : ∀ b j h e, IsReal (K (ix4 b j h e)))
    (b : Fin 2) (h : Fin 4) (i : Fin 128) (j : Fin 1024) : IsReal (scoreR x wq K b h i j) :=
  (IsReal.sum _ fun e => (IsReal.sum _ fun d => (hx _).mul (hw _)).mul (hK _ _ _ _)).mul ⟨_, eighth_eq⟩

section

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's buffer of an argument. -/
abbrev loc' (r : Ref Cert.ReferenceIdeal.sig .tc) :=
  ((0 : Dev Cert.ReferenceIdeal.nD).tc : Thread Cert.ReferenceIdeal.nD Cert.ReferenceIdeal.τ).loc r

/-- Each device holds its part of the reference's arrays. -/
def Agree : Prop := ∀ c : Dev nD,
  m ((c.tc : Thread nD τ).loc main_arg0) = m' (loc' Cert.ReferenceIdeal.main_arg0)
  ∧ m ((c.tc : Thread nD τ).loc main_arg1) = m' (loc' Cert.ReferenceIdeal.main_arg1)
  ∧ m ((c.tc : Thread nD τ).loc main_arg2)
      = Layout.block ⟨4, ![2, 128, 4, 64]⟩ ⟨4, ![2, 1024, 4, 64]⟩ 1 8 c (m' (loc' Cert.ReferenceIdeal.main_arg2))
  ∧ m ((c.tc : Thread nD τ).loc main_arg3)
      = Layout.block ⟨4, ![2, 128, 4, 64]⟩ ⟨4, ![2, 1024, 4, 64]⟩ 1 8 c (m' (loc' Cert.ReferenceIdeal.main_arg3))
  ∧ m ((c.tc : Thread nD τ).loc main_arg4) = m' (loc' Cert.ReferenceIdeal.main_arg4)

variable {m m'} (H : Agree m m')

include H in
/-- What the kernel is launched on, in the reference's arrays. -/
theorem holds : Holds (ins m) (m' (loc' Cert.ReferenceIdeal.main_arg0)) (m' (loc' Cert.ReferenceIdeal.main_arg1))
    (m' (loc' Cert.ReferenceIdeal.main_arg2)) (m' (loc' Cert.ReferenceIdeal.main_arg3))
    (m' (loc' Cert.ReferenceIdeal.main_arg4)) where
  x c := (V₁_arg m c).1.trans (H c).1
  wq c := (V₁_arg m c).2.1.trans (H c).2.1
  k k b h e j := by
    refine (congrFun (ins_k m (srcDev k)) _).trans ((transpose_ix _ b h e j).trans ?_)
    refine (congrFun (H (srcDev k)).2.2.1 _).trans ?_
    exact congrArg (m' (loc' Cert.ReferenceIdeal.main_arg2))
      (idx_eq (srcDev k) _ b j h e (key k j) (by show 128 * k.val + j.val = k.val * 128 + j.val; omega))
  v k b h e j := by
    refine (congrFun (ins_v m (srcDev k)) _).trans ((transpose_ix _ b h e j).trans ?_)
    refine (congrFun (H (srcDev k)).2.2.2.1 _).trans ?_
    exact congrArg (m' (loc' Cert.ReferenceIdeal.main_arg3))
      (idx_eq (srcDev k) _ b j h e (key k j) (by show 128 * k.val + j.val = k.val * 128 + j.val; omega))
  wo c := (V₁_arg m c).2.2.2.2.trans (H c).2.2.2.2

include H in
/-- The reference's scores are reals where the devices' blocks are finite. -/
theorem scores_real (hf : Cert.Pre_KernelIdeal_finite_KernelIdeal m) (b : Fin 2) (h : Fin 4) (i : Fin 128) (j : Fin 1024) :
    IsReal (scoreR (m' (loc' Cert.ReferenceIdeal.main_arg0)) (m' (loc' Cert.ReferenceIdeal.main_arg1))
      (m' (loc' Cert.ReferenceIdeal.main_arg2)) b h i j) := by
  have R := fun c => Cert.Pre_finite_KernelIdeal.isReal _ _ _ _ _ (hf c)
  refine scoreR_isReal (fun a => ?_) (fun a => ?_) (fun b j hd e => ?_) b h i j
  · exact (congrFun (H 0).1 a) ▸ (R 0).1 a
  · exact (congrFun (H 0).2.1 a) ▸ (R 0).2.1 a
  · have hj := j.isLt
    let c : Dev nD := ⟨j.val / 128, by show _ < 8; omega⟩
    have r := (R c).2.2 (ix4 b ⟨j.val % 128, by omega⟩ hd e)
    have e1 := (congrFun (H c).2.2.1 (ix4 b ⟨j.val % 128, by omega⟩ hd e)).trans
      (congrArg (m' (loc' Cert.ReferenceIdeal.main_arg2))
        (idx_eq c _ b ⟨j.val % 128, by omega⟩ hd e j (by show j.val = j.val / 128 * 128 + j.val % 128; omega)))
    exact e1 ▸ r

include H in
/-- Every device's result is the reference's. -/
theorem out_eq_ref (hf : Cert.Pre_KernelIdeal_finite_KernelIdeal m) (c : Dev nD) :
    OUT (ins m) c = Cert.ReferenceIdeal.Value.res_main_v35 (F := Ideal) m' 0 := by
  choose s hs using scores_real H hf
  exact ext_ix3 _ _ fun b i n => (OUT_eq (holds H) s hs c b i n).trans (ref_apply m' 0 s hs b i n).symm

end

/-- **The value claim.** -/
theorem algebraic : Cert.algebraic_KernelIdeal_ReferenceIdeal_pre_finite_KernelIdeal := fun m ρ m' ρ' hf H =>
  ⟨Cert.ReferenceIdeal.Value.res_main_v35 (F := Ideal) m' 0,
    (θ_run _ _ _).mono (fun _ h c => ⟨(h.1 c).1.trans (out_eq_ref (m := m) (m' := m') H hf c), (h.1 c).2⟩)
      (Cert.KernelIdeal.Talk.run_main (F := Ideal) m ρ),
    (θ_run _ _ _).mono (fun _ h => h 0) (Cert.ReferenceIdeal.Value.run (F := Ideal) m' ρ')⟩

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value.Algebraic

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Pre_finite_KernelIdeal.facts, Cert.Pre_finite_ReferenceIdeal.facts,
    Cert.Frames.kernel, Cert.Frames.kernelIdeal, fun m ρ _ => Cert.Frames.kernelIdeal m ρ trivial,
    Cert.Frames.referenceIdeal, fun m ρ _ => Cert.Frames.referenceIdeal m ρ trivial, trivial, Cert.Value.algebraic⟩

end Cert.Proof

end
